-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S2 : Shape := ⟨1, ![2]⟩
abbrev S8x30 : Shape := ⟨2, ![8, 30]⟩
abbrev S8x60 : Shape := ⟨2, ![8, 60]⟩
abbrev S8 : Shape := ⟨1, ![8]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel

variable [Facts]

def fn {F : FTy → Type} [FloatOps F] (main_arg0 : IVec S2 32) (main_arg1 : FVec F S8x30 .f32) (main_arg2 : FVec F S8x60 .f32) (main_arg3 : FVec F S8 .f32) : IVec S_ 1 :=
  let main_c : IVec S_ 32 := constantI S_ 32 0#32
  let main_v0 : IVec S2 32 := broadcastInDim S2 ![] bcast_S_S2 main_c
  let main_v1 : IVec S2 1 := cmpi .sge main_arg0 main_v0
  let main_c_0 : IVec S_ 32 := constantI S_ 32 8#32
  let main_v2 : IVec S2 32 := broadcastInDim S2 ![] bcast_S_S2 main_c_0
  let main_v3 : IVec S2 1 := cmpi .slt main_arg0 main_v2
  let main_v4 : IVec S2 1 := andi main_v1 main_v3
  let main_c_1 : IVec S_ 1 := constantI S_ 1 1#1
  let main_v5 : IVec S_ 1 := (fun x v => Host.reduce IntOp.andi x v reducesTo_S2_S_d0 h_S_) main_v4 main_c_1
  main_v5
-- ==== Kernel.lean ====
abbrev S2 : Shape := ⟨1, ![2]⟩
abbrev S8x30 : Shape := ⟨2, ![8, 30]⟩
abbrev S8x60 : Shape := ⟨2, ![8, 60]⟩
abbrev S8 : Shape := ⟨1, ![8]⟩
abbrev S1x8 : Shape := ⟨2, ![1, 8]⟩
abbrev S_ : Shape := ⟨0, ![]⟩
abbrev S1 : Shape := ⟨1, ![1]⟩
abbrev S1x1 : Shape := ⟨2, ![1, 1]⟩

abbrev nBuf : Table → Nat
  | .hbm => 5
  | .local .scScalar .smem => 5
  | _ => 0

abbrev bufTy : (tb : Table) → Fin (nBuf tb) → BufTy
  | .hbm, ⟨0, _⟩ => ⟨S2, .i32⟩
  | .hbm, ⟨1, _⟩ => ⟨S8x30, .f32⟩
  | .hbm, ⟨2, _⟩ => ⟨S8x60, .f32⟩
  | .hbm, ⟨3, _⟩ => ⟨S8, .f32⟩
  | .hbm, ⟨4, _⟩ => ⟨S1x8, .f32⟩
  | .local .scScalar .smem, ⟨0, _⟩ => ⟨S2, .i32⟩
  | .local .scScalar .smem, ⟨1, _⟩ => ⟨S8x30, .f32⟩
  | .local .scScalar .smem, ⟨2, _⟩ => ⟨S8x60, .f32⟩
  | .local .scScalar .smem, ⟨3, _⟩ => ⟨S8, .f32⟩
  | .local .scScalar .smem, ⟨4, _⟩ => ⟨S8, .f32⟩
  | _, _ => ⟨S2, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg0_scs : Ref sig .scScalar := ⟨.hbm, 0, rfl⟩
abbrev main_arg1_scs : Ref sig .scScalar := ⟨.hbm, 1, rfl⟩
abbrev main_arg2_scs : Ref sig .scScalar := ⟨.hbm, 2, rfl⟩
abbrev main_arg3_scs : Ref sig .scScalar := ⟨.hbm, 3, rfl⟩
abbrev main_v0_scs : Ref sig .scScalar := ⟨.hbm, 4, rfl⟩
abbrev cc0_scratch0 : Ref sig .scScalar := ⟨.smem, 0, rfl⟩
abbrev cc0_scratch1 : Ref sig .scScalar := ⟨.smem, 1, rfl⟩
abbrev cc0_scratch2 : Ref sig .scScalar := ⟨.smem, 2, rfl⟩
abbrev cc0_scratch3 : Ref sig .scScalar := ⟨.smem, 3, rfl⟩
abbrev cc0_scratch4 : Ref sig .scScalar := ⟨.smem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_1 : BitVec 32 := 0#32
  let c30_i32 : BitVec 32 := 30#32
  let v18 : BitVec 32 := Scalar.addi c0_i32_1 c30_i32
  let c1_i32_2 : BitVec 32 := 1#32
  ⟨c0_i32_1, v18, c1_i32_2⟩
def k0_off1 (v17 : BitVec 32) (k0_t1 : Fin k0_t1_loop.trips) : Fin 2 → Nat :=
  let v40 : Index := Scalar.indexCast v17
  let c0_i32_1 : BitVec 32 := 0#32
  let c1_i32_2 : BitVec 32 := 1#32
  let arg15 : BitVec 32 := Scf.iv c0_i32_1 c1_i32_2 k0_t1
  let v41 : Index := Scalar.indexCast arg15
  ![v40.toNat, v41.toNat]

def k0_chk1 (v17 : BitVec 32) : Prop :=
  (∀ k0_t1 : Fin k0_t1_loop.trips, ∀ a, (k0_off1 v17 k0_t1) a + S1x1.size a ≤ S8x30.size a)
theorem k0_off1_inb : ∀ (v17 : BitVec 32) (k0_hw1 : k0_chk1 v17) (k0_t1 : Fin k0_t1_loop.trips), ∀ a, (k0_off1 v17 k0_t1) a + S1x1.size a ≤ S8x30.size a := fun v17 k0_hw1 k0_t1 => k0_hw1 k0_t1

def k0_off2 (k0_t1 : Fin k0_t1_loop.trips) : Fin 2 → Nat :=
  let c0_i32_19 : BitVec 32 := 0#32
  let v44 : Index := Scalar.indexCast c0_i32_19
  let c0_i32_18 : BitVec 32 := 0#32
  let c0_i32_1 : BitVec 32 := 0#32
  let c1_i32_2 : BitVec 32 := 1#32
  let arg15 : BitVec 32 := Scf.iv c0_i32_1 c1_i32_2 k0_t1
  let v43 : BitVec 32 := Scalar.addi c0_i32_18 arg15
  let v45 : Index := Scalar.indexCast v43
  ![0, v45.toNat]
def k0_off3 (k0_t1 : Fin k0_t1_loop.trips) : Fin 2 → Nat :=
  let c1_i32_21 : BitVec 32 := 1#32
  let v50 : Index := Scalar.indexCast c1_i32_21
  let c0_i32_20 : BitVec 32 := 0#32
  let c0_i32_1 : BitVec 32 := 0#32
  let c1_i32_2 : BitVec 32 := 1#32
  let arg15 : BitVec 32 := Scf.iv c0_i32_1 c1_i32_2 k0_t1
  let v49 : BitVec 32 := Scalar.addi c0_i32_20 arg15
  let v51 : Index := Scalar.indexCast v49
  ![1, v51.toNat]
def k0_off4 (k0_t1 : Fin k0_t1_loop.trips) : Fin 2 → Nat :=
  let c2_i32_23 : BitVec 32 := 2#32
  let v56 : Index := Scalar.indexCast c2_i32_23
  let c0_i32_22 : BitVec 32 := 0#32
  let c0_i32_1 : BitVec 32 := 0#32
  let c1_i32_2 : BitVec 32 := 1#32
  let arg15 : BitVec 32 := Scf.iv c0_i32_1 c1_i32_2 k0_t1
  let v55 : BitVec 32 := Scalar.addi c0_i32_22 arg15
  let v57 : Index := Scalar.indexCast v55
  ![2, v57.toNat]
def k0_off5 (k0_t1 : Fin k0_t1_loop.trips) : Fin 2 → Nat :=
  let c3_i32_25 : BitVec 32 := 3#32
  let v62 : Index := Scalar.indexCast c3_i32_25
  let c0_i32_24 : BitVec 32 := 0#32
  let c0_i32_1 : BitVec 32 := 0#32
  let c1_i32_2 : BitVec 32 := 1#32
  let arg15 : BitVec 32 := Scf.iv c0_i32_1 c1_i32_2 k0_t1
  let v61 : BitVec 32 := Scalar.addi c0_i32_24 arg15
  let v63 : Index := Scalar.indexCast v61
  ![3, v63.toNat]
def k0_off6 (k0_t1 : Fin k0_t1_loop.trips) : Fin 2 → Nat :=
  let c4_i32_27 : BitVec 32 := 4#32
  let v68 : Index := Scalar.indexCast c4_i32_27
  let c0_i32_26 : BitVec 32 := 0#32
  let c0_i32_1 : BitVec 32 := 0#32
  let c1_i32_2 : BitVec 32 := 1#32
  let arg15 : BitVec 32 := Scf.iv c0_i32_1 c1_i32_2 k0_t1
  let v67 : BitVec 32 := Scalar.addi c0_i32_26 arg15
  let v69 : Index := Scalar.indexCast v67
  ![4, v69.toNat]
def k0_off7 (k0_t1 : Fin k0_t1_loop.trips) : Fin 2 → Nat :=
  let c5_i32_29 : BitVec 32 := 5#32
  let v74 : Index := Scalar.indexCast c5_i32_29
  let c0_i32_28 : BitVec 32 := 0#32
  let c0_i32_1 : BitVec 32 := 0#32
  let c1_i32_2 : BitVec 32 := 1#32
  let arg15 : BitVec 32 := Scf.iv c0_i32_1 c1_i32_2 k0_t1
  let v73 : BitVec 32 := Scalar.addi c0_i32_28 arg15
  let v75 : Index := Scalar.indexCast v73
  ![5, v75.toNat]
def k0_off8 (k0_t1 : Fin k0_t1_loop.trips) : Fin 2 → Nat :=
  let c6_i32_31 : BitVec 32 := 6#32
  let v80 : Index := Scalar.indexCast c6_i32_31
  let c0_i32_30 : BitVec 32 := 0#32
  let c0_i32_1 : BitVec 32 := 0#32
  let c1_i32_2 : BitVec 32 := 1#32
  let arg15 : BitVec 32 := Scf.iv c0_i32_1 c1_i32_2 k0_t1
  let v79 : BitVec 32 := Scalar.addi c0_i32_30 arg15
  let v81 : Index := Scalar.indexCast v79
  ![6, v81.toNat]
def k0_off9 (k0_t1 : Fin k0_t1_loop.trips) : Fin 2 → Nat :=
  let c7_i32_33 : BitVec 32 := 7#32
  let v86 : Index := Scalar.indexCast c7_i32_33
  let c0_i32_32 : BitVec 32 := 0#32
  let c0_i32_1 : BitVec 32 := 0#32
  let c1_i32_2 : BitVec 32 := 1#32
  let arg15 : BitVec 32 := Scf.iv c0_i32_1 c1_i32_2 k0_t1
  let v85 : BitVec 32 := Scalar.addi c0_i32_32 arg15
  let v87 : Index := Scalar.indexCast v85
  ![7, v87.toNat]
@[reducible] def k0_t2_loop : Scf.Loop 32 :=
  let c0_i32_5 : BitVec 32 := 0#32
  let c30_i32_6 : BitVec 32 := 30#32
  let v22 : BitVec 32 := Scalar.addi c0_i32_5 c30_i32_6
  let c1_i32_7 : BitVec 32 := 1#32
  ⟨c0_i32_5, v22, c1_i32_7⟩
def k0_off10 (v21 : BitVec 32) (k0_t2 : Fin k0_t2_loop.trips) : Fin 2 → Nat :=
  let v40 : Index := Scalar.indexCast v21
  let c0_i32_5 : BitVec 32 := 0#32
  let c1_i32_7 : BitVec 32 := 1#32
  let arg15 : BitVec 32 := Scf.iv c0_i32_5 c1_i32_7 k0_t2
  let v41 : Index := Scalar.indexCast arg15
  ![v40.toNat, v41.toNat]

def k0_chk2 (v21 : BitVec 32) : Prop :=
  (∀ k0_t2 : Fin k0_t2_loop.trips, ∀ a, (k0_off10 v21 k0_t2) a + S1x1.size a ≤ S8x30.size a)
theorem k0_off10_inb : ∀ (v21 : BitVec 32) (k0_hw2 : k0_chk2 v21) (k0_t2 : Fin k0_t2_loop.trips), ∀ a, (k0_off10 v21 k0_t2) a + S1x1.size a ≤ S8x30.size a := fun v21 k0_hw2 k0_t2 => k0_hw2 k0_t2

def k0_off11 (k0_t2 : Fin k0_t2_loop.trips) : Fin 2 → Nat :=
  let c0_i32_19 : BitVec 32 := 0#32
  let v44 : Index := Scalar.indexCast c0_i32_19
  let c30_i32_18 : BitVec 32 := 30#32
  let c0_i32_5 : BitVec 32 := 0#32
  let c1_i32_7 : BitVec 32 := 1#32
  let arg15 : BitVec 32 := Scf.iv c0_i32_5 c1_i32_7 k0_t2
  let v43 : BitVec 32 := Scalar.addi c30_i32_18 arg15
  let v45 : Index := Scalar.indexCast v43
  ![0, v45.toNat]
def k0_off12 (k0_t2 : Fin k0_t2_loop.trips) : Fin 2 → Nat :=
  let c1_i32_21 : BitVec 32 := 1#32
  let v50 : Index := Scalar.indexCast c1_i32_21
  let c30_i32_20 : BitVec 32 := 30#32
  let c0_i32_5 : BitVec 32 := 0#32
  let c1_i32_7 : BitVec 32 := 1#32
  let arg15 : BitVec 32 := Scf.iv c0_i32_5 c1_i32_7 k0_t2
  let v49 : BitVec 32 := Scalar.addi c30_i32_20 arg15
  let v51 : Index := Scalar.indexCast v49
  ![1, v51.toNat]
def k0_off13 (k0_t2 : Fin k0_t2_loop.trips) : Fin 2 → Nat :=
  let c2_i32_23 : BitVec 32 := 2#32
  let v56 : Index := Scalar.indexCast c2_i32_23
  let c30_i32_22 : BitVec 32 := 30#32
  let c0_i32_5 : BitVec 32 := 0#32
  let c1_i32_7 : BitVec 32 := 1#32
  let arg15 : BitVec 32 := Scf.iv c0_i32_5 c1_i32_7 k0_t2
  let v55 : BitVec 32 := Scalar.addi c30_i32_22 arg15
  let v57 : Index := Scalar.indexCast v55
  ![2, v57.toNat]
def k0_off14 (k0_t2 : Fin k0_t2_loop.trips) : Fin 2 → Nat :=
  let c3_i32_25 : BitVec 32 := 3#32
  let v62 : Index := Scalar.indexCast c3_i32_25
  let c30_i32_24 : BitVec 32 := 30#32
  let c0_i32_5 : BitVec 32 := 0#32
  let c1_i32_7 : BitVec 32 := 1#32
  let arg15 : BitVec 32 := Scf.iv c0_i32_5 c1_i32_7 k0_t2
  let v61 : BitVec 32 := Scalar.addi c30_i32_24 arg15
  let v63 : Index := Scalar.indexCast v61
  ![3, v63.toNat]
def k0_off15 (k0_t2 : Fin k0_t2_loop.trips) : Fin 2 → Nat :=
  let c4_i32_27 : BitVec 32 := 4#32
  let v68 : Index := Scalar.indexCast c4_i32_27
  let c30_i32_26 : BitVec 32 := 30#32
  let c0_i32_5 : BitVec 32 := 0#32
  let c1_i32_7 : BitVec 32 := 1#32
  let arg15 : BitVec 32 := Scf.iv c0_i32_5 c1_i32_7 k0_t2
  let v67 : BitVec 32 := Scalar.addi c30_i32_26 arg15
  let v69 : Index := Scalar.indexCast v67
  ![4, v69.toNat]
def k0_off16 (k0_t2 : Fin k0_t2_loop.trips) : Fin 2 → Nat :=
  let c5_i32_29 : BitVec 32 := 5#32
  let v74 : Index := Scalar.indexCast c5_i32_29
  let c30_i32_28 : BitVec 32 := 30#32
  let c0_i32_5 : BitVec 32 := 0#32
  let c1_i32_7 : BitVec 32 := 1#32
  let arg15 : BitVec 32 := Scf.iv c0_i32_5 c1_i32_7 k0_t2
  let v73 : BitVec 32 := Scalar.addi c30_i32_28 arg15
  let v75 : Index := Scalar.indexCast v73
  ![5, v75.toNat]
def k0_off17 (k0_t2 : Fin k0_t2_loop.trips) : Fin 2 → Nat :=
  let c6_i32_31 : BitVec 32 := 6#32
  let v80 : Index := Scalar.indexCast c6_i32_31
  let c30_i32_30 : BitVec 32 := 30#32
  let c0_i32_5 : BitVec 32 := 0#32
  let c1_i32_7 : BitVec 32 := 1#32
  let arg15 : BitVec 32 := Scf.iv c0_i32_5 c1_i32_7 k0_t2
  let v79 : BitVec 32 := Scalar.addi c30_i32_30 arg15
  let v81 : Index := Scalar.indexCast v79
  ![6, v81.toNat]
def k0_off18 (k0_t2 : Fin k0_t2_loop.trips) : Fin 2 → Nat :=
  let c7_i32_33 : BitVec 32 := 7#32
  let v86 : Index := Scalar.indexCast c7_i32_33
  let c30_i32_32 : BitVec 32 := 30#32
  let c0_i32_5 : BitVec 32 := 0#32
  let c1_i32_7 : BitVec 32 := 1#32
  let arg15 : BitVec 32 := Scf.iv c0_i32_5 c1_i32_7 k0_t2
  let v85 : BitVec 32 := Scalar.addi c30_i32_32 arg15
  let v87 : Index := Scalar.indexCast v85
  ![7, v87.toNat]
abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S2 : Shape := ⟨1, ![2]⟩
abbrev S8x30 : Shape := ⟨2, ![8, 30]⟩
abbrev S8x60 : Shape := ⟨2, ![8, 60]⟩
abbrev S8 : Shape := ⟨1, ![8]⟩
abbrev S_ : Shape := ⟨0, ![]⟩
abbrev S2x1 : Shape := ⟨2, ![2, 1]⟩
abbrev S1 : Shape := ⟨1, ![1]⟩
abbrev S1x1 : Shape := ⟨2, ![1, 1]⟩
abbrev S2x30 : Shape := ⟨2, ![2, 30]⟩
abbrev S1x60 : Shape := ⟨2, ![1, 60]⟩
abbrev S60x8 : Shape := ⟨2, ![60, 8]⟩
abbrev S1x8 : Shape := ⟨2, ![1, 8]⟩

abbrev nBuf : Space → Nat
  | .hbm => 32
  | .vmem => 0
  | .smem => 0
  | _ => 0

abbrev bufTy : (tb : Table) → Fin (tcTables nBuf tb) → BufTy
  | .hbm, ⟨0, _⟩ => ⟨S2, .i32⟩
  | .hbm, ⟨1, _⟩ => ⟨S8x30, .f32⟩
  | .hbm, ⟨2, _⟩ => ⟨S8x60, .f32⟩
  | .hbm, ⟨3, _⟩ => ⟨S8, .f32⟩
  | .hbm, ⟨4, _⟩ => ⟨S_, .i32⟩
  | .hbm, ⟨5, _⟩ => ⟨S2, .i32⟩
  | .hbm, ⟨6, _⟩ => ⟨S2, .i1⟩
  | .hbm, ⟨7, _⟩ => ⟨S_, .i32⟩
  | .hbm, ⟨8, _⟩ => ⟨S2, .i32⟩
  | .hbm, ⟨9, _⟩ => ⟨S2, .i32⟩
  | .hbm, ⟨10, _⟩ => ⟨S2, .i32⟩
  | .hbm, ⟨11, _⟩ => ⟨S2x1, .i32⟩
  | .hbm, ⟨12, _⟩ => ⟨S1, .i32⟩
  | .hbm, ⟨13, _⟩ => ⟨S_, .i32⟩
  | .hbm, ⟨14, _⟩ => ⟨S2x1, .i32⟩
  | .hbm, ⟨15, _⟩ => ⟨S2x1, .i1⟩
  | .hbm, ⟨16, _⟩ => ⟨S1x1, .i32⟩
  | .hbm, ⟨17, _⟩ => ⟨S2x1, .i32⟩
  | .hbm, ⟨18, _⟩ => ⟨S2x1, .i1⟩
  | .hbm, ⟨19, _⟩ => ⟨S2x1, .i1⟩
  | .hbm, ⟨20, _⟩ => ⟨S_, .i1⟩
  | .hbm, ⟨21, _⟩ => ⟨S2, .i1⟩
  | .hbm, ⟨22, _⟩ => ⟨S2x30, .f32⟩
  | .hbm, ⟨23, _⟩ => ⟨S2x30, .i1⟩
  | .hbm, ⟨24, _⟩ => ⟨S_, .f32⟩
  | .hbm, ⟨25, _⟩ => ⟨S2x30, .f32⟩
  | .hbm, ⟨26, _⟩ => ⟨S2x30, .f32⟩
  | .hbm, ⟨27, _⟩ => ⟨S1x60, .f32⟩
  | .hbm, ⟨28, _⟩ => ⟨S60x8, .f32⟩
  | .hbm, ⟨29, _⟩ => ⟨S1x8, .f32⟩
  | .hbm, ⟨30, _⟩ => ⟨S1x8, .f32⟩
  | .hbm, ⟨31, _⟩ => ⟨S1x8, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩

abbrev nD : Nat := 1
abbrev τ : Topo := Topo.v7x

variable {F : FTy → Type} [FloatOps F]
-- ==== Proof.Setup.lean ====
/-
  The embedding-and-linear kernel as the SparseCore launch theorem sees it, at any float values `F`: one
  scalar-subcore call on SparseCore 0's sequencer. The call lends the sequencer the four arguments and the
  result array. What the kernel computes of them is stated last, as the additions and multiplications in its order.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

/-! ## The program, its labels and its resource algebra -/

/-- The labels below the SparseCore launch's. -/
abbrev ΛP : Labels := Pipeline.Sig Λ₀ (Fin 0) fun p => (pcfgs (F := F) p).Adm
/-- The program's one SparseCore call. -/
abbrev K : SparseCore.Cfg τ sig (ΛP (F := F)) 1 := sc (F := F)
/-- The body table below the launch. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's four semaphores are distinct where that matters and none is scoped; no buffer of a SparseCore's is a
    task's. -/
theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The launch's handshakes; beside them, the counters of the transfers. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev xLoc (d : Dev nD) : Loc nD τ sig := (SparseCore.T d).loc main_arg0
abbrev eLoc (d : Dev nD) : Loc nD τ sig := (SparseCore.T d).loc main_arg1
abbrev wLoc (d : Dev nD) : Loc nD τ sig := (SparseCore.T d).loc main_arg2
abbrev bLoc (d : Dev nD) : Loc nD τ sig := (SparseCore.T d).loc main_arg3
abbrev oLoc (d : Dev nD) : Loc nD τ sig := (SparseCore.T d).loc main_v0

variable (m : (ℓ : Loc nD τ sig) → Buf (Elt F) ℓ) (ρ : Dev nD → PrngReg)

/-- The four arguments whole at their launch contents: the words' numbers, the table, the weights, the bias. -/
def argPts (d : Dev nD) : sProp 𝕄 :=
  iprop((xLoc d ↦{fullShare} m (xLoc d)) ∗ (eLoc d ↦{fullShare} m (eLoc d))
    ∗ (wLoc d ↦{fullShare} m (wLoc d)) ∗ (bLoc d ↦{fullShare} m (bLoc d)))

instance argPts_storable (d : Dev nD) : BI.Storable (upEmb : UEmb _ 𝕄) (argPts m d) := by
  unfold argPts; infer_instance

/-! ## What the result holds -/

section Value
variable [FloatOps F]

/-- The row of the table that word number `c` of the context names (`x[c]`, as a number below 8). -/
def rowOf (x : S2.Idx → BitVec 32) (c : Fin 2) : ℕ := (x (ix1 c)).toNat % 8

/-- Neuron `j`'s sum over the first `n` entries of the row that `x[c]` names, started at `a` and added one at a time. -/
def partialDot (x : S2.Idx → BitVec 32) (e : S8x30.Idx → F .f32) (w : S8x60.Idx → F .f32) (c : Fin 2) (j : Fin 8) (a : F .f32) : ℕ → F .f32
  | 0 => a
  | n + 1 => Scalar.addf (partialDot x e w c j a n)
      (Scalar.mulf (e (ix2 ⟨rowOf x c, Nat.mod_lt _ (by decide)⟩ ⟨n % 30, Nat.mod_lt _ (by decide)⟩))
        (w (ix2 j ⟨(30 * c.val + n) % 60, Nat.mod_lt _ (by decide)⟩)))

/-- Neuron `j`: the bias, the first word's thirty products, then the second word's. -/
def neuron (x : S2.Idx → BitVec 32) (e : S8x30.Idx → F .f32) (w : S8x60.Idx → F .f32) (b : S8.Idx → F .f32) (j : Fin 8) : F .f32 :=
  partialDot x e w 1 j (partialDot x e w 0 j (b (ix1 j)) 30) 30

/-- The result array. -/
def outOf (x : S2.Idx → BitVec 32) (e : S8x30.Idx → F .f32) (w : S8x60.Idx → F .f32) (b : S8.Idx → F .f32) : S1x8.Idx → F .f32 :=
  fun i => neuron x e w b (i 1)

end Value

end Cert.Proof.Embed

end
-- ==== Proof.Body.lean ====
/-
  The kernel's body on the sequencer, at any float values: the four copies in, the bias and the two word numbers
  read, the two loops of thirty trips over the columns, the eight stores and the copy out, with the contents of every
  buffer named.
-/
module

public import proofs.«01_k».proof.Proof.Setup

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

local notation "xW" => (Memref.whole Cert.KernelIdeal.main_arg0_scs : Memref Cert.KernelIdeal.sig Kind.scScalar Space.hbm Cert.KernelIdeal.S2 EltTy.i32)
local notation "eW" => (Memref.whole Cert.KernelIdeal.main_arg1_scs : Memref Cert.KernelIdeal.sig Kind.scScalar Space.hbm Cert.KernelIdeal.S8x30 EltTy.f32)
local notation "wW" => (Memref.whole Cert.KernelIdeal.main_arg2_scs : Memref Cert.KernelIdeal.sig Kind.scScalar Space.hbm Cert.KernelIdeal.S8x60 EltTy.f32)
local notation "bW" => (Memref.whole Cert.KernelIdeal.main_arg3_scs : Memref Cert.KernelIdeal.sig Kind.scScalar Space.hbm Cert.KernelIdeal.S8 EltTy.f32)
local notation "oW" => (Memref.whole Cert.KernelIdeal.main_v0_scs : Memref Cert.KernelIdeal.sig Kind.scScalar Space.hbm Cert.KernelIdeal.S1x8 EltTy.f32)
local notation "xS" => (Memref.whole Cert.KernelIdeal.cc0_scratch0 : Memref Cert.KernelIdeal.sig Kind.scScalar Space.smem Cert.KernelIdeal.S2 EltTy.i32)
local notation "eS" => (Memref.whole Cert.KernelIdeal.cc0_scratch1 : Memref Cert.KernelIdeal.sig Kind.scScalar Space.smem Cert.KernelIdeal.S8x30 EltTy.f32)
local notation "wS" => (Memref.whole Cert.KernelIdeal.cc0_scratch2 : Memref Cert.KernelIdeal.sig Kind.scScalar Space.smem Cert.KernelIdeal.S8x60 EltTy.f32)
local notation "bS" => (Memref.whole Cert.KernelIdeal.cc0_scratch3 : Memref Cert.KernelIdeal.sig Kind.scScalar Space.smem Cert.KernelIdeal.S8 EltTy.f32)
local notation "oS" => (Memref.whole Cert.KernelIdeal.cc0_scratch4 : Memref Cert.KernelIdeal.sig Kind.scScalar Space.smem Cert.KernelIdeal.S8 EltTy.f32)

variable [FloatOps F]

section Body

variable (d : Dev nD)

def coordsS (c : Fin (grid0.bound 0)) : grid0.Coords := fun | 0 => c | ⟨_ + 1, h⟩ => absurd h (Nat.not_lt.2 (Nat.le_add_left _ _))

/-- SparseCore 0's sequencer thread. -/
abbrev S0 (h : 0 < grid0.bound 0) : Thread nD τ := S d ((⟨0, h⟩ : Fin (grid0.bound 0)).castLE hcore0)

section Words
omit [FloatOps F]
/-- A one-element load of the word numbers' buffer reads the contents at the element its offsets name; -/
theorem word_x (off : Fin 1 → ℕ) (inb : ∀ a, off a + S1.size a ≤ S2.size a) (hn) (f : S2.Idx → BitVec 32) (i : S2.Idx) (hi : ∀ a, off a = i a) :
    View.readAt (Elt F) (xS).view (Rect.unit (s := S2) off S1.size inb).toLoadRect f (Shape.Idx.first hn) = f i :=
  congrArg f (funext fun a => Fin.ext (hi a))
/-- so does one of the bias's, -/
theorem word_b (off : Fin 1 → ℕ) (inb : ∀ a, off a + S1.size a ≤ S8.size a) (hn) (f : S8.Idx → F .f32) (i : S8.Idx) (hi : ∀ a, off a = i a) :
    View.readAt (Elt F) (bS).view (Rect.unit (s := S8) off S1.size inb).toLoadRect f (Shape.Idx.first hn) = f i :=
  congrArg f (funext fun a => Fin.ext (hi a))
/-- of the table's, -/
theorem word_e (off : Fin 2 → ℕ) (inb : ∀ a, off a + S1x1.size a ≤ S8x30.size a) (hn) (f : S8x30.Idx → F .f32) (i : S8x30.Idx) (hi : ∀ a, off a = i a) :
    View.readAt (Elt F) (eS).view (Rect.unit (s := S8x30) off S1x1.size inb).toLoadRect f (Shape.Idx.first hn) = f i :=
  congrArg f (funext fun a => Fin.ext (hi a))
/-- and of the weights'. -/
theorem word_w (off : Fin 2 → ℕ) (inb : ∀ a, off a + S1x1.size a ≤ S8x60.size a) (hn) (f : S8x60.Idx → F .f32) (i : S8x60.Idx) (hi : ∀ a, off a = i a) :
    View.readAt (Elt F) (wS).view (Rect.unit (s := S8x60) off S1x1.size inb).toLoadRect f (Shape.Idx.first hn) = f i :=
  congrArg f (funext fun a => Fin.ext (hi a))
end Words

omit [FloatOps F] in
/-- A copy between whole buffers of one type leaves the source's contents in the target. -/
theorem copied {κ : Kind} (r : Ref sig κ) (g v : r.ty.Contents (Elt F)) :
    View.write (Elt F) (Memref.whole r).view g v Finset.univ = v :=
  View.write_whole_univ r g v

/-- The eight running sums of the loop over word `c`'s row after `n` trips, started at `a`. -/
def sums (x : S2.Idx → BitVec 32) (e : S8x30.Idx → F .f32) (w : S8x60.Idx → F .f32) (c : Fin 2) (a : Fin 8 → F .f32) (n : ℕ) :
    Elt F .f32 × Elt F .f32 × Elt F .f32 × Elt F .f32 × Elt F .f32 × Elt F .f32 × Elt F .f32 × Elt F .f32 :=
  (partialDot x e w c 0 (a 0) n, partialDot x e w c 1 (a 1) n, partialDot x e w c 2 (a 2) n, partialDot x e w c 3 (a 3) n,
    partialDot x e w c 4 (a 4) n, partialDot x e w c 5 (a 5) n, partialDot x e w c 6 (a 6) n, partialDot x e w c 7 (a 7) n)

/-- The loop over word `c` before trip `k`: the carried values are the running sums; the table and the weights are in
    the sequencer's memory. -/
def inv (h : 0 < grid0.bound 0) (x : S2.Idx → BitVec 32) (e : S8x30.Idx → F .f32) (w : S8x60.Idx → F .f32) (c : Fin 2) (a : Fin 8 → F .f32)
    (k : Nat) (t : Elt F .f32 × Elt F .f32 × Elt F .f32 × Elt F .f32 × Elt F .f32 × Elt F .f32 × Elt F .f32 × Elt F .f32) : sProp 𝕄 :=
  iprop(⌜t = sums x e w c a k⌝ ∗ ((eS).view.loc (S0 d h) ↦{fullShare} e) ∗ ((wS).view.loc (S0 d h) ↦{fullShare} w))

omit [FloatOps F] in
/-- A word number below 8 passes the first loop's bounds check, -/
theorem check_first (v : BitVec 32) (hv : v.toNat < 8) : k0_chk1 v := by
  intro k a
  have h1 : ∀ k : Fin k0_t1_loop.trips, k0_off1 0#32 k 1 + 1 ≤ 30 := by decide +kernel
  match a with
  | ⟨0, _⟩ => show v.toNat + 1 ≤ 8; omega
  | ⟨1, _⟩ => exact h1 k

omit [FloatOps F] in
/-- After the copy of the word numbers, the first load of their buffer reads `x[0]`; -/
theorem first_word (g : (cc0_scratch0 : Ref sig .scScalar).ty.Contents (Elt F)) (x : S2.Idx → BitVec 32) (hn) :
    View.readAt (Elt F) (xS).view (Rect.unit (s := S2) ![0] S1.size inb_S2_S1_0).toLoadRect
      (View.write (Elt F) (xS).view g (ReadAs.same.apply (View.read (Elt F) (xW).view x)) Finset.univ) (Shape.Idx.first hn) = x (ix1 0) := by
  rw [copied]; exact word_x (F := F) _ _ _ x (ix1 0) (by decide)

omit [FloatOps F] in
/-- the second load reads `x[1]`. -/
theorem second_word (g : (cc0_scratch0 : Ref sig .scScalar).ty.Contents (Elt F)) (x : S2.Idx → BitVec 32) (hn) :
    View.readAt (Elt F) (xS).view (Rect.unit (s := S2) ![1] S1.size inb_S2_S1_1).toLoadRect
      (View.write (Elt F) (xS).view g (ReadAs.same.apply (View.read (Elt F) (xW).view x)) Finset.univ) (Shape.Idx.first hn) = x (ix1 1) := by
  rw [copied]; exact word_x (F := F) _ _ _ x (ix1 1) (by decide)

/-- One trip adds the product of its two entries to neuron `j`'s sum. -/
theorem sum_succ (x : S2.Idx → BitVec 32) (e : S8x30.Idx → F .f32) (w : S8x60.Idx → F .f32) (c : Fin 2) (j : Fin 8) (a : F .f32) (n : ℕ) (p q : F .f32)
    (hp : p = e (ix2 ⟨rowOf x c, Nat.mod_lt _ (by decide)⟩ ⟨n % 30, Nat.mod_lt _ (by decide)⟩))
    (hq : q = w (ix2 j ⟨(30 * c.val + n) % 60, Nat.mod_lt _ (by decide)⟩)) :
    Scalar.addf (partialDot x e w c j a n) (Scalar.mulf p q) = partialDot x e w c j a (n + 1) := by
  subst hp hq; rfl

/-- A table load of the first loop is at the row `x[0]` names and the trip's column, -/
theorem first_entry (x : S2.Idx → BitVec 32) (k : Fin k0_t1_loop.trips) (hx : ∀ c : Fin 2, (x (ix1 c)).toNat < 8) (v : BitVec 32) (hv : v = x (ix1 0)) (a) :
    k0_off1 v k a = (ix2 (⟨rowOf x 0, Nat.mod_lt _ (by decide)⟩ : Fin 8) (⟨k.val % 30, Nat.mod_lt _ (by decide)⟩ : Fin 30) a : ℕ) := by
  subst hv
  have h1 : ∀ k : Fin k0_t1_loop.trips, k0_off1 0#32 k 1 = k.val % 30 := by decide +kernel
  match a with
  | ⟨0, _⟩ => exact (Nat.mod_eq_of_lt (hx 0)).symm
  | ⟨1, _⟩ => exact h1 k

/-- one of the second at the row `x[1]` names. -/
theorem second_entry (x : S2.Idx → BitVec 32) (k : Fin k0_t2_loop.trips) (hx : ∀ c : Fin 2, (x (ix1 c)).toNat < 8) (v : BitVec 32) (hv : v = x (ix1 1)) (a) :
    k0_off10 v k a = (ix2 (⟨rowOf x 1, Nat.mod_lt _ (by decide)⟩ : Fin 8) (⟨k.val % 30, Nat.mod_lt _ (by decide)⟩ : Fin 30) a : ℕ) := by
  subst hv
  have h1 : ∀ k : Fin k0_t2_loop.trips, k0_off10 0#32 k 1 = k.val % 30 := by decide +kernel
  match a with
  | ⟨0, _⟩ => exact (Nat.mod_eq_of_lt (hx 1)).symm
  | ⟨1, _⟩ => exact h1 k

/-- A trip of the first loop takes the eight running sums one entry on. -/
theorem first_step (x : S2.Idx → BitVec 32) (e : S8x30.Idx → F .f32) (w : S8x60.Idx → F .f32) (a : Fin 8 → F .f32) (k : Fin k0_t1_loop.trips)
    (hx : ∀ c : Fin 2, (x (ix1 c)).toNat < 8) (v : BitVec 32) (hv : v = x (ix1 0)) (he) (ne) (n0 n1 n2 n3 n4 n5 n6 n7) :
    (k0_pay1 (partialDot x e w 0 0 (a 0) k.val) (View.readAt (Elt F) (eS).view (Rect.unit (s := S8x30) (k0_off1 v k) S1x1.size he).toLoadRect e (Shape.Idx.first ne))
        (View.readAt (Elt F) (wS).view (Rect.unit (s := S8x60) (k0_off2 k) S1x1.size (k0_off2_inb k)).toLoadRect w (Shape.Idx.first n0)),
      k0_pay2 (partialDot x e w 0 1 (a 1) k.val) (View.readAt (Elt F) (eS).view (Rect.unit (s := S8x30) (k0_off1 v k) S1x1.size he).toLoadRect e (Shape.Idx.first ne))
        (View.readAt (Elt F) (wS).view (Rect.unit (s := S8x60) (k0_off3 k) S1x1.size (k0_off3_inb k)).toLoadRect w (Shape.Idx.first n1)),
      k0_pay3 (partialDot x e w 0 2 (a 2) k.val) (View.readAt (Elt F) (eS).view (Rect.unit (s := S8x30) (k0_off1 v k) S1x1.size he).toLoadRect e (Shape.Idx.first ne))
        (View.readAt (Elt F) (wS).view (Rect.unit (s := S8x60) (k0_off4 k) S1x1.size (k0_off4_inb k)).toLoadRect w (Shape.Idx.first n2)),
      k0_pay4 (partialDot x e w 0 3 (a 3) k.val) (View.readAt (Elt F) (eS).view (Rect.unit (s := S8x30) (k0_off1 v k) S1x1.size he).toLoadRect e (Shape.Idx.first ne))
        (View.readAt (Elt F) (wS).view (Rect.unit (s := S8x60) (k0_off5 k) S1x1.size (k0_off5_inb k)).toLoadRect w (Shape.Idx.first n3)),
      k0_pay5 (partialDot x e w 0 4 (a 4) k.val) (View.readAt (Elt F) (eS).view (Rect.unit (s := S8x30) (k0_off1 v k) S1x1.size he).toLoadRect e (Shape.Idx.first ne))
        (View.readAt (Elt F) (wS).view (Rect.unit (s := S8x60) (k0_off6 k) S1x1.size (k0_off6_inb k)).toLoadRect w (Shape.Idx.first n4)),
      k0_pay6 (partialDot x e w 0 5 (a 5) k.val) (View.readAt (Elt F) (eS).view (Rect.unit (s := S8x30) (k0_off1 v k) S1x1.size he).toLoadRect e (Shape.Idx.first ne))
        (View.readAt (Elt F) (wS).view (Rect.unit (s := S8x60) (k0_off7 k) S1x1.size (k0_off7_inb k)).toLoadRect w (Shape.Idx.first n5)),
      k0_pay7 (partialDot x e w 0 6 (a 6) k.val) (View.readAt (Elt F) (eS).view (Rect.unit (s := S8x30) (k0_off1 v k) S1x1.size he).toLoadRect e (Shape.Idx.first ne))
        (View.readAt (Elt F) (wS).view (Rect.unit (s := S8x60) (k0_off8 k) S1x1.size (k0_off8_inb k)).toLoadRect w (Shape.Idx.first n6)),
      k0_pay15 (partialDot x e w 0 7 (a 7) k.val) (View.readAt (Elt F) (eS).view (Rect.unit (s := S8x30) (k0_off1 v k) S1x1.size he).toLoadRect e (Shape.Idx.first ne))
        (View.readAt (Elt F) (wS).view (Rect.unit (s := S8x60) (k0_off9 k) S1x1.size (k0_off9_inb k)).toLoadRect w (Shape.Idx.first n7)))
    = sums x e w 0 a (k.val + 1) := by
  have hp := word_e (k0_off1 v k) he ne e _ (first_entry x k hx v hv)
  refine Prod.ext (sum_succ x e w 0 0 _ _ _ _ hp (word_w _ _ n0 w _ ?_)) (Prod.ext (sum_succ x e w 0 1 _ _ _ _ hp (word_w _ _ n1 w _ ?_))
    (Prod.ext (sum_succ x e w 0 2 _ _ _ _ hp (word_w _ _ n2 w _ ?_)) (Prod.ext (sum_succ x e w 0 3 _ _ _ _ hp (word_w _ _ n3 w _ ?_))
    (Prod.ext (sum_succ x e w 0 4 _ _ _ _ hp (word_w _ _ n4 w _ ?_)) (Prod.ext (sum_succ x e w 0 5 _ _ _ _ hp (word_w _ _ n5 w _ ?_))
    (Prod.ext (sum_succ x e w 0 6 _ _ _ _ hp (word_w _ _ n6 w _ ?_)) (sum_succ x e w 0 7 _ _ _ _ hp (word_w _ _ n7 w _ ?_))))))))
  · exact (by decide +kernel : ∀ (k : Fin k0_t1_loop.trips) (a), k0_off2 k a = (ix2 (0 : Fin 8) (⟨(30 * 0 + k.val) % 60, Nat.mod_lt _ (by decide)⟩ : Fin 60) a : ℕ)) k
  · exact (by decide +kernel : ∀ (k : Fin k0_t1_loop.trips) (a), k0_off3 k a = (ix2 (1 : Fin 8) (⟨(30 * 0 + k.val) % 60, Nat.mod_lt _ (by decide)⟩ : Fin 60) a : ℕ)) k
  · exact (by decide +kernel : ∀ (k : Fin k0_t1_loop.trips) (a), k0_off4 k a = (ix2 (2 : Fin 8) (⟨(30 * 0 + k.val) % 60, Nat.mod_lt _ (by decide)⟩ : Fin 60) a : ℕ)) k
  · exact (by decide +kernel : ∀ (k : Fin k0_t1_loop.trips) (a), k0_off5 k a = (ix2 (3 : Fin 8) (⟨(30 * 0 + k.val) % 60, Nat.mod_lt _ (by decide)⟩ : Fin 60) a : ℕ)) k
  · exact (by decide +kernel : ∀ (k : Fin k0_t1_loop.trips) (a), k0_off6 k a = (ix2 (4 : Fin 8) (⟨(30 * 0 + k.val) % 60, Nat.mod_lt _ (by decide)⟩ : Fin 60) a : ℕ)) k
  · exact (by decide +kernel : ∀ (k : Fin k0_t1_loop.trips) (a), k0_off7 k a = (ix2 (5 : Fin 8) (⟨(30 * 0 + k.val) % 60, Nat.mod_lt _ (by decide)⟩ : Fin 60) a : ℕ)) k
  · exact (by decide +kernel : ∀ (k : Fin k0_t1_loop.trips) (a), k0_off8 k a = (ix2 (6 : Fin 8) (⟨(30 * 0 + k.val) % 60, Nat.mod_lt _ (by decide)⟩ : Fin 60) a : ℕ)) k
  · exact (by decide +kernel : ∀ (k : Fin k0_t1_loop.trips) (a), k0_off9 k a = (ix2 (7 : Fin 8) (⟨(30 * 0 + k.val) % 60, Nat.mod_lt _ (by decide)⟩ : Fin 60) a : ℕ)) k

/-- A trip of the second loop likewise. -/
theorem second_step (x : S2.Idx → BitVec 32) (e : S8x30.Idx → F .f32) (w : S8x60.Idx → F .f32) (a : Fin 8 → F .f32) (k : Fin k0_t2_loop.trips)
    (hx : ∀ c : Fin 2, (x (ix1 c)).toNat < 8) (v : BitVec 32) (hv : v = x (ix1 1)) (he) (ne) (n0 n1 n2 n3 n4 n5 n6 n7) :
    (k0_pay8 (partialDot x e w 1 0 (a 0) k.val) (View.readAt (Elt F) (eS).view (Rect.unit (s := S8x30) (k0_off10 v k) S1x1.size he).toLoadRect e (Shape.Idx.first ne))
        (View.readAt (Elt F) (wS).view (Rect.unit (s := S8x60) (k0_off11 k) S1x1.size (k0_off11_inb k)).toLoadRect w (Shape.Idx.first n0)),
      k0_pay9 (partialDot x e w 1 1 (a 1) k.val) (View.readAt (Elt F) (eS).view (Rect.unit (s := S8x30) (k0_off10 v k) S1x1.size he).toLoadRect e (Shape.Idx.first ne))
        (View.readAt (Elt F) (wS).view (Rect.unit (s := S8x60) (k0_off12 k) S1x1.size (k0_off12_inb k)).toLoadRect w (Shape.Idx.first n1)),
      k0_pay10 (partialDot x e w 1 2 (a 2) k.val) (View.readAt (Elt F) (eS).view (Rect.unit (s := S8x30) (k0_off10 v k) S1x1.size he).toLoadRect e (Shape.Idx.first ne))
        (View.readAt (Elt F) (wS).view (Rect.unit (s := S8x60) (k0_off13 k) S1x1.size (k0_off13_inb k)).toLoadRect w (Shape.Idx.first n2)),
      k0_pay11 (partialDot x e w 1 3 (a 3) k.val) (View.readAt (Elt F) (eS).view (Rect.unit (s := S8x30) (k0_off10 v k) S1x1.size he).toLoadRect e (Shape.Idx.first ne))
        (View.readAt (Elt F) (wS).view (Rect.unit (s := S8x60) (k0_off14 k) S1x1.size (k0_off14_inb k)).toLoadRect w (Shape.Idx.first n3)),
      k0_pay12 (partialDot x e w 1 4 (a 4) k.val) (View.readAt (Elt F) (eS).view (Rect.unit (s := S8x30) (k0_off10 v k) S1x1.size he).toLoadRect e (Shape.Idx.first ne))
        (View.readAt (Elt F) (wS).view (Rect.unit (s := S8x60) (k0_off15 k) S1x1.size (k0_off15_inb k)).toLoadRect w (Shape.Idx.first n4)),
      k0_pay13 (partialDot x e w 1 5 (a 5) k.val) (View.readAt (Elt F) (eS).view (Rect.unit (s := S8x30) (k0_off10 v k) S1x1.size he).toLoadRect e (Shape.Idx.first ne))
        (View.readAt (Elt F) (wS).view (Rect.unit (s := S8x60) (k0_off16 k) S1x1.size (k0_off16_inb k)).toLoadRect w (Shape.Idx.first n5)),
      k0_pay14 (partialDot x e w 1 6 (a 6) k.val) (View.readAt (Elt F) (eS).view (Rect.unit (s := S8x30) (k0_off10 v k) S1x1.size he).toLoadRect e (Shape.Idx.first ne))
        (View.readAt (Elt F) (wS).view (Rect.unit (s := S8x60) (k0_off17 k) S1x1.size (k0_off17_inb k)).toLoadRect w (Shape.Idx.first n6)),
      k0_pay16 (partialDot x e w 1 7 (a 7) k.val) (View.readAt (Elt F) (eS).view (Rect.unit (s := S8x30) (k0_off10 v k) S1x1.size he).toLoadRect e (Shape.Idx.first ne))
        (View.readAt (Elt F) (wS).view (Rect.unit (s := S8x60) (k0_off18 k) S1x1.size (k0_off18_inb k)).toLoadRect w (Shape.Idx.first n7)))
    = sums x e w 1 a (k.val + 1) := by
  have hp := word_e (k0_off10 v k) he ne e _ (second_entry x k hx v hv)
  refine Prod.ext (sum_succ x e w 1 0 _ _ _ _ hp (word_w _ _ n0 w _ ?_)) (Prod.ext (sum_succ x e w 1 1 _ _ _ _ hp (word_w _ _ n1 w _ ?_))
    (Prod.ext (sum_succ x e w 1 2 _ _ _ _ hp (word_w _ _ n2 w _ ?_)) (Prod.ext (sum_succ x e w 1 3 _ _ _ _ hp (word_w _ _ n3 w _ ?_))
    (Prod.ext (sum_succ x e w 1 4 _ _ _ _ hp (word_w _ _ n4 w _ ?_)) (Prod.ext (sum_succ x e w 1 5 _ _ _ _ hp (word_w _ _ n5 w _ ?_))
    (Prod.ext (sum_succ x e w 1 6 _ _ _ _ hp (word_w _ _ n6 w _ ?_)) (sum_succ x e w 1 7 _ _ _ _ hp (word_w _ _ n7 w _ ?_))))))))
  · exact (by decide +kernel : ∀ (k : Fin k0_t2_loop.trips) (a), k0_off11 k a = (ix2 (0 : Fin 8) (⟨(30 * 1 + k.val) % 60, Nat.mod_lt _ (by decide)⟩ : Fin 60) a : ℕ)) k
  · exact (by decide +kernel : ∀ (k : Fin k0_t2_loop.trips) (a), k0_off12 k a = (ix2 (1 : Fin 8) (⟨(30 * 1 + k.val) % 60, Nat.mod_lt _ (by decide)⟩ : Fin 60) a : ℕ)) k
  · exact (by decide +kernel : ∀ (k : Fin k0_t2_loop.trips) (a), k0_off13 k a = (ix2 (2 : Fin 8) (⟨(30 * 1 + k.val) % 60, Nat.mod_lt _ (by decide)⟩ : Fin 60) a : ℕ)) k
  · exact (by decide +kernel : ∀ (k : Fin k0_t2_loop.trips) (a), k0_off14 k a = (ix2 (3 : Fin 8) (⟨(30 * 1 + k.val) % 60, Nat.mod_lt _ (by decide)⟩ : Fin 60) a : ℕ)) k
  · exact (by decide +kernel : ∀ (k : Fin k0_t2_loop.trips) (a), k0_off15 k a = (ix2 (4 : Fin 8) (⟨(30 * 1 + k.val) % 60, Nat.mod_lt _ (by decide)⟩ : Fin 60) a : ℕ)) k
  · exact (by decide +kernel : ∀ (k : Fin k0_t2_loop.trips) (a), k0_off16 k a = (ix2 (5 : Fin 8) (⟨(30 * 1 + k.val) % 60, Nat.mod_lt _ (by decide)⟩ : Fin 60) a : ℕ)) k
  · exact (by decide +kernel : ∀ (k : Fin k0_t2_loop.trips) (a), k0_off17 k a = (ix2 (6 : Fin 8) (⟨(30 * 1 + k.val) % 60, Nat.mod_lt _ (by decide)⟩ : Fin 60) a : ℕ)) k
  · exact (by decide +kernel : ∀ (k : Fin k0_t2_loop.trips) (a), k0_off18 k a = (ix2 (7 : Fin 8) (⟨(30 * 1 + k.val) % 60, Nat.mod_lt _ (by decide)⟩ : Fin 60) a : ℕ)) k

/-- After both loops the carried values are the eight neurons. -/
theorem neurons_eq (x : S2.Idx → BitVec 32) (e : S8x30.Idx → F .f32) (w : S8x60.Idx → F .f32) (b : S8.Idx → F .f32) :
    sums x e w 1 (fun j => partialDot x e w 0 j (b (ix1 j)) 30) 30
      = (neuron x e w b 0, neuron x e w b 1, neuron x e w b 2, neuron x e w b 3, neuron x e w b 4, neuron x e w b 5, neuron x e w b 6, neuron x e w b 7) := rfl

omit [FloatOps F] in
/-- So the word the first loop indexes the table by passes its bounds check. -/
theorem first_ok (g : (cc0_scratch0 : Ref sig .scScalar).ty.Contents (Elt F)) (x : S2.Idx → BitVec 32) (hx : ∀ c : Fin 2, (x (ix1 c)).toNat < 8) (hn) :
    k0_chk1 (View.readAt (Elt F) (xS).view (Rect.unit (s := S2) ![0] S1.size inb_S2_S1_0).toLoadRect
      (View.write (Elt F) (xS).view g (ReadAs.same.apply (View.read (Elt F) (xW).view x)) Finset.univ) (Shape.Idx.first hn)) := by
  refine check_first _ ?_
  rw [copied, word_x (F := F) _ _ _ _ (ix1 0) (by decide)]
  exact hx 0

omit [FloatOps F] in
/-- A word number below 8 passes the second loop's bounds check, -/
theorem check_second (v : BitVec 32) (hv : v.toNat < 8) : k0_chk2 v := by
  intro k a
  have h1 : ∀ k : Fin k0_t2_loop.trips, k0_off10 0#32 k 1 + 1 ≤ 30 := by decide +kernel
  match a with
  | ⟨0, _⟩ => show v.toNat + 1 ≤ 8; omega
  | ⟨1, _⟩ => exact h1 k

omit [FloatOps F] in
/-- so the word the second loop indexes the table by passes it. -/
theorem second_ok (g : (cc0_scratch0 : Ref sig .scScalar).ty.Contents (Elt F)) (x : S2.Idx → BitVec 32) (hx : ∀ c : Fin 2, (x (ix1 c)).toNat < 8) (hn) :
    k0_chk2 (View.readAt (Elt F) (xS).view (Rect.unit (s := S2) ![1] S1.size inb_S2_S1_1).toLoadRect
      (View.write (Elt F) (xS).view g (ReadAs.same.apply (View.read (Elt F) (xW).view x)) Finset.univ) (Shape.Idx.first hn)) := by
  refine check_second _ ?_
  rw [copied, word_x (F := F) _ _ _ _ (ix1 1) (by decide)]
  exact hx 1

/-- The eight bias words read are the eight running sums before the first trip of the first loop. -/
theorem bias_sums (x : S2.Idx → BitVec 32) (e : S8x30.Idx → F .f32) (w : S8x60.Idx → F .f32) (b : S8.Idx → F .f32) (h0 h1 h2 h3 h4 h5 h6 h7) :
    (View.readAt (Elt F) (bS).view (Rect.unit (s := S8) ![0] S1.size inb_S8_S1_0).toLoadRect b (Shape.Idx.first h0),
      View.readAt (Elt F) (bS).view (Rect.unit (s := S8) ![1] S1.size inb_S8_S1_1).toLoadRect b (Shape.Idx.first h1),
      View.readAt (Elt F) (bS).view (Rect.unit (s := S8) ![2] S1.size inb_S8_S1_2).toLoadRect b (Shape.Idx.first h2),
      View.readAt (Elt F) (bS).view (Rect.unit (s := S8) ![3] S1.size inb_S8_S1_3).toLoadRect b (Shape.Idx.first h3),
      View.readAt (Elt F) (bS).view (Rect.unit (s := S8) ![4] S1.size inb_S8_S1_4).toLoadRect b (Shape.Idx.first h4),
      View.readAt (Elt F) (bS).view (Rect.unit (s := S8) ![5] S1.size inb_S8_S1_5).toLoadRect b (Shape.Idx.first h5),
      View.readAt (Elt F) (bS).view (Rect.unit (s := S8) ![6] S1.size inb_S8_S1_6).toLoadRect b (Shape.Idx.first h6),
      View.readAt (Elt F) (bS).view (Rect.unit (s := S8) ![7] S1.size inb_S8_S1_7).toLoadRect b (Shape.Idx.first h7))
    = sums x e w 0 (fun j => b (ix1 j)) 0 := by
  rw [word_b _ _ h0 b (ix1 0) (by decide), word_b _ _ h1 b (ix1 1) (by decide), word_b _ _ h2 b (ix1 2) (by decide),
    word_b _ _ h3 b (ix1 3) (by decide), word_b _ _ h4 b (ix1 4) (by decide), word_b _ _ h5 b (ix1 5) (by decide),
    word_b _ _ h6 b (ix1 6) (by decide), word_b _ _ h7 b (ix1 7) (by decide)]
  rfl

/-! ### What the stores and the copy out leave -/

/-- The eight one-element stores of `n`'s values, the last first. -/
abbrev stores (n : Fin 8 → F .f32) : List (View.Piece (Elt F) S8 .f32) :=
  [⟨Rect.unit (s := S8) ![7] S1.size inb_S8_S1_7, fun _ => n 7⟩, ⟨Rect.unit (s := S8) ![6] S1.size inb_S8_S1_6, fun _ => n 6⟩,
    ⟨Rect.unit (s := S8) ![5] S1.size inb_S8_S1_5, fun _ => n 5⟩, ⟨Rect.unit (s := S8) ![4] S1.size inb_S8_S1_4, fun _ => n 4⟩,
    ⟨Rect.unit (s := S8) ![3] S1.size inb_S8_S1_3, fun _ => n 3⟩, ⟨Rect.unit (s := S8) ![2] S1.size inb_S8_S1_2, fun _ => n 2⟩,
    ⟨Rect.unit (s := S8) ![1] S1.size inb_S8_S1_1, fun _ => n 1⟩, ⟨Rect.unit (s := S8) ![0] S1.size inb_S8_S1_0, fun _ => n 0⟩]

omit [FloatOps F] in
/-- They leave the stored values in the sequencer's result buffer, whatever it held. -/
theorem stored (n : Fin 8 → F .f32) (g : (cc0_scratch4 : Ref sig .scScalar).ty.Contents (Elt F)) :
    (oS).view.writes (Elt F) g (stores n) = fun i => n (i 0) := by
  have at_place : ∀ (j : Fin 8) (inb : ∀ a, (![j.val] : Fin 1 → ℕ) a + S1.size a ≤ S8.size a) (x : (Rect.unit (s := S8) ![j.val] S1.size inb).shape.Idx),
      n j = n ((Rect.unit (s := S8) ![j.val] S1.size inb).emb x 0) := fun j inb x =>
    congrArg n (Fin.ext (show j.val = j.val + 1 * (x 0).val by have : (x 0).val < 1 := (x 0).isLt; omega))
  have pieces : ∀ p ∈ stores n, ∀ x : p.1.shape.Idx, p.2 x = n (p.1.emb x 0) := by
    simp only [List.forall_mem_cons]
    exact ⟨at_place 7 _, at_place 6 _, at_place 5 _, at_place 4 _, at_place 3 _, at_place 2 _, at_place 1 _, at_place 0 _, fun _ hp => absurd hp List.not_mem_nil⟩
  exact funext fun y => View.read_writes_apply_of_pieces (oS).view g (fun i : S8.Idx => n (i 0)) (stores n) pieces y
    (View.cover_of_tiled (stores n) S1.size rfl y)

omit [FloatOps F] in
/-- A copy of eight values to the result array's one row leaves value `j` in column `j`. -/
theorem delivered (f : (main_v0_scs : Ref sig .scScalar).ty.Contents (Elt F)) (n : Fin 8 → F .f32) (hs) :
    View.write (Elt F) (((oW).slice (Rect.unit (s := S1x8) ![0, 0] S1x8.size inb_S1x8_S1x8_0_0) hs).squeeze S8 squeezes_S1x8_S8).view f
      (fun i : S8.Idx => n (i 0)) Finset.univ = fun i : S1x8.Idx => n (i 1) := by
  funext i
  have hi : (((oW).slice (Rect.unit (s := S1x8) ![0, 0] S1x8.size inb_S1x8_S1x8_0_0) hs).squeeze S8 squeezes_S1x8_S8).view.emb (ix1 (i 1)) = i := by
    have hj : ∀ j : Fin 8, (((oW).slice (Rect.unit (s := S1x8) ![0, 0] S1x8.size inb_S1x8_S1x8_0_0) (fun _ => rfl)).squeeze S8 squeezes_S1x8_S8).view.emb (ix1 j)
        = (ix2 (0 : Fin 1) j : S1x8.Idx) := by decide +kernel
    refine (hj (i 1)).trans (funext fun a => ?_)
    match a with
    | ⟨0, _⟩ => exact Fin.ext (by have : (i 0).val < 1 := (i 0).isLt; show 0 = (i 0).val; omega)
    | ⟨1, _⟩ => rfl
  conv_lhs => rw [← hi]
  exact View.write_emb_of_mem _ _ (Finset.mem_univ _)

/-- The whole body on SparseCore 0's sequencer: from the four arguments, the result array, the five buffers and the five semaphores at
    zero, with both word numbers below 8, it ends with the arguments as they were, the result array at `outOf` of them, the
    buffers at some contents and the semaphores at zero. -/
theorem seq_run (h : 0 < grid0.bound 0) (O : CellTallies nD τ sig (HIx 1)) (W : Waits sig (HIx 1))
    (x : S2.Idx → BitVec 32) (e : S8x30.Idx → F .f32) (w : S8x60.Idx → F .f32) (b : S8.Idx → F .f32)
    (hx : ∀ c : Fin 2, (x (ix1 c)).toNat < 8) (fo : Buf (Elt F) ((oW).view.loc (S0 d h)))
    (gx : Buf (Elt F) ((xS).view.loc (S0 d h))) (ge : Buf (Elt F) ((eS).view.loc (S0 d h))) (gw : Buf (Elt F) ((wS).view.loc (S0 d h)))
    (gb : Buf (Elt F) ((bS).view.loc (S0 d h))) (go : Buf (Elt F) ((oS).view.loc (S0 d h))) :
    (iprop(Transfers.MayWaits (S0 d h) (none : HIx 1) O
        ∗ ((xW).view.loc (S0 d h) ↦{fullShare} x) ∗ ((eW).view.loc (S0 d h) ↦{fullShare} e)
        ∗ ((wW).view.loc (S0 d h) ↦{fullShare} w) ∗ ((bW).view.loc (S0 d h) ↦{fullShare} b) ∗ ((oW).view.loc (S0 d h) ↦{fullShare} fo)
        ∗ ((xS).view.loc (S0 d h) ↦{fullShare} gx) ∗ ((eS).view.loc (S0 d h) ↦{fullShare} ge)
        ∗ ((wS).view.loc (S0 d h) ↦{fullShare} gw) ∗ ((bS).view.loc (S0 d h) ↦{fullShare} gb) ∗ ((oS).view.loc (S0 d h) ↦{fullShare} go)
        ∗ semVal (S0 d h, SemLoc.dma cc0_scratch5.sem) 0 ∗ semVal (S0 d h, SemLoc.dma cc0_scratch6.sem) 0
        ∗ semVal (S0 d h, SemLoc.dma cc0_scratch7.sem) 0 ∗ semVal (S0 d h, SemLoc.dma cc0_scratch8.sem) 0
        ∗ semVal (S0 d h, SemLoc.dma cc0_scoped0.sem) 0
        ∗ owes (S0 d h) O W) : sProp 𝕄)
      ⊢ wp frame (wpE (defs₀ (F := F)) 𝒱₀ (S0 d h) none) Set.univ
          (cc0_sc_kernel (coordsS ⟨0, h⟩) xW (Memref.isWhole_whole _) eW (Memref.isWhole_whole _) wW (Memref.isWhole_whole _)
            bW (Memref.isWhole_whole _) oW (Memref.isWhole_whole _) xS (Memref.isWhole_whole _) eS (Memref.isWhole_whole _)
            wS (Memref.isWhole_whole _) bS (Memref.isWhole_whole _) oS (Memref.isWhole_whole _)
            cc0_scratch5 cc0_scratch6 cc0_scratch7 cc0_scratch8 cc0_scoped0)
          fun _ => iprop(((xW).view.loc (S0 d h) ↦{fullShare} x) ∗ ((eW).view.loc (S0 d h) ↦{fullShare} e)
            ∗ ((wW).view.loc (S0 d h) ↦{fullShare} w) ∗ ((bW).view.loc (S0 d h) ↦{fullShare} b)
            ∗ ((oW).view.loc (S0 d h) ↦{fullShare} outOf x e w b)
            ∗ (∃ f, (xS).view.loc (S0 d h) ↦{fullShare} f) ∗ (∃ f, (eS).view.loc (S0 d h) ↦{fullShare} f)
            ∗ (∃ f, (wS).view.loc (S0 d h) ↦{fullShare} f) ∗ (∃ f, (bS).view.loc (S0 d h) ↦{fullShare} f)
            ∗ (∃ f, (oS).view.loc (S0 d h) ↦{fullShare} f)
            ∗ semVal (S0 d h, SemLoc.dma cc0_scratch5.sem) 0 ∗ semVal (S0 d h, SemLoc.dma cc0_scratch6.sem) 0
            ∗ semVal (S0 d h, SemLoc.dma cc0_scratch7.sem) 0 ∗ semVal (S0 d h, SemLoc.dma cc0_scratch8.sem) 0
            ∗ semVal (S0 d h, SemLoc.dma cc0_scoped0.sem) 0
            ∗ ∃ W', owes (S0 d h) O W') := by
  iintro ⟨#Hmw, Hx, He, Hw, Hb, Ho, Hxs, Hes, Hws, Hbs, Hos, Hc0, Hc1, Hc2, Hc3, Hc4, HO⟩
  sl_unfold [cc0_sc_kernel]
  sl_exec (disch := (sl_unfold_run_names; exact first_ok _ _ hx _))
  sl_for (inv d h x e w 0 (fun j => b (ix1 j))) $$ [Hes Hws]
  case region =>
    intro k t
    unfold inv
    iintro ⟨%ht, He, Hw⟩
    subst ht
    unfold sums
    sl_exec
    sl_step
    isplitr [He Hw]
    · ipureintro
      sl_unfold_run_names
      exact first_step x e w (fun j => b (ix1 j)) k hx _ (first_word gx x _) _ _ _ _ _ _ _ _ _ _
    isplitl [He] <;> iassumption
  · unfold inv
    isplitr [Hes Hws]
    · ipureintro
      sl_unfold_run_names
      rw [copied]
      exact bias_sums x e w b _ _ _ _ _ _ _ _
    · isplitl [Hes]
      · rw [copied]; iexact Hes
      · rw [copied]; iexact Hws
  iintro %t1 HI
  unfold inv
  icases HI with ⟨%ht1, Hes, Hws⟩
  subst ht1
  rw [show Scf.trips k0_t1_loop.lb k0_t1_loop.ub k0_t1_loop.st = 30 by decide]
  unfold sums
  sl_exec (disch := (sl_unfold_run_names; exact second_ok _ _ hx _))
  sl_for (inv d h x e w 1 (fun j => partialDot x e w 0 j (b (ix1 j)) 30)) $$ [Hes Hws]
  case region =>
    intro k t
    unfold inv
    iintro ⟨%ht, He, Hw⟩
    subst ht
    unfold sums
    sl_exec
    sl_step
    isplitr [He Hw]
    · ipureintro
      sl_unfold_run_names
      exact second_step x e w (fun j => partialDot x e w 0 j (b (ix1 j)) 30) k hx _ (second_word gx x _) _ _ _ _ _ _ _ _ _ _
    isplitl [He] <;> iassumption
  · unfold inv
    isplitr [Hes Hws]
    · ipureintro; rfl
    · isplitl [Hes] <;> iassumption
  iintro %t2 HI
  unfold inv
  icases HI with ⟨%ht2, Hes, Hws⟩
  subst ht2
  rw [show Scf.trips k0_t2_loop.lb k0_t2_loop.ub k0_t2_loop.st = 30 by decide, neurons_eq]
  sl_exec
  sl_step
  isplitl [Hx]; · iexact Hx
  isplitl [He]; · iexact He
  isplitl [Hw]; · iexact Hw
  isplitl [Hb]; · iexact Hb
  isplitl [Ho]
  · sl_unfold_run_names
    iapply (Entails.of_eq (congrArg (fun z : Buf (Elt F) ((oW).view.loc (S0 d h)) => ((oW).view.loc (S0 d h) ↦{fullShare} z : sProp 𝕄))
      ((congrArg (fun v : S8.Idx → F .f32 => View.write (Elt F) (((oW).slice (Rect.unit (s := S1x8) ![0, 0] S1x8.size inb_S1x8_S1x8_0_0)
        (fun _ => rfl)).squeeze S8 squeezes_S1x8_S8).view fo v Finset.univ) (stored (neuron x e w b) go)).trans (delivered fo (neuron x e w b) _))))
    iexact Ho
  isplitl [Hxs]; · iexists _; iexact Hxs
  isplitl [Hes]; · iexists _; iexact Hes
  isplitl [Hws]; · iexists _; iexact Hws
  isplitl [Hbs]; · iexists _; iexact Hbs
  isplitl [Hos]; · iexists _; iexact Hos
  isplitl [Hc0]; · iexact Hc0
  isplitl [Hc1]; · iexact Hc1
  isplitl [Hc2]; · iexact Hc2
  isplitl [Hc3]; · iexact Hc3
  isplitl [Hc4]; · iexact Hc4
  iexists _; iexact HO

end Body

end Cert.Proof.Embed

end
-- ==== Proof.Run.lean ====
/-
  The kernel's launch and its run, at any float values: the call lends SparseCore 0's sequencer the arrays, the
  sequencer's own buffers and semaphores are opened around the body, and the program ends with the arguments as they
  were, the result array at `outOf` of them and every semaphore at zero.
-/
module

public import proofs.«01_k».proof.Proof.Body

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

local notation "xW" => (Memref.whole Cert.KernelIdeal.main_arg0_scs : Memref Cert.KernelIdeal.sig Kind.scScalar Space.hbm Cert.KernelIdeal.S2 EltTy.i32)
local notation "eW" => (Memref.whole Cert.KernelIdeal.main_arg1_scs : Memref Cert.KernelIdeal.sig Kind.scScalar Space.hbm Cert.KernelIdeal.S8x30 EltTy.f32)
local notation "wW" => (Memref.whole Cert.KernelIdeal.main_arg2_scs : Memref Cert.KernelIdeal.sig Kind.scScalar Space.hbm Cert.KernelIdeal.S8x60 EltTy.f32)
local notation "bW" => (Memref.whole Cert.KernelIdeal.main_arg3_scs : Memref Cert.KernelIdeal.sig Kind.scScalar Space.hbm Cert.KernelIdeal.S8 EltTy.f32)
local notation "oW" => (Memref.whole Cert.KernelIdeal.main_v0_scs : Memref Cert.KernelIdeal.sig Kind.scScalar Space.hbm Cert.KernelIdeal.S1x8 EltTy.f32)
local notation "xS" => (Memref.whole Cert.KernelIdeal.cc0_scratch0 : Memref Cert.KernelIdeal.sig Kind.scScalar Space.smem Cert.KernelIdeal.S2 EltTy.i32)
local notation "eS" => (Memref.whole Cert.KernelIdeal.cc0_scratch1 : Memref Cert.KernelIdeal.sig Kind.scScalar Space.smem Cert.KernelIdeal.S8x30 EltTy.f32)
local notation "wS" => (Memref.whole Cert.KernelIdeal.cc0_scratch2 : Memref Cert.KernelIdeal.sig Kind.scScalar Space.smem Cert.KernelIdeal.S8x60 EltTy.f32)
local notation "bS" => (Memref.whole Cert.KernelIdeal.cc0_scratch3 : Memref Cert.KernelIdeal.sig Kind.scScalar Space.smem Cert.KernelIdeal.S8 EltTy.f32)
local notation "oS" => (Memref.whole Cert.KernelIdeal.cc0_scratch4 : Memref Cert.KernelIdeal.sig Kind.scScalar Space.smem Cert.KernelIdeal.S8 EltTy.f32)

variable [FloatOps F]

variable (m : (ℓ : Loc nD τ sig) → Buf (Elt F) ℓ) (ρ : Dev nD → PrngReg)

/-- Every word number of the launch memory is below 8, on every device. -/
abbrev InRange : Prop := ∀ (d : Dev nD) (c : Fin 2), ((m (xLoc d) : S2.Idx → BitVec 32) (ix1 c)).toNat < 8

/-- The result array of device `d` at what the kernel computes from the launch memory. -/
abbrev outAt (d : Dev nD) : Buf (Elt F) (oLoc d) := outOf (m (xLoc d)) (m (eLoc d)) (m (wLoc d)) (m (bLoc d))

/-- What the call is handed: the arguments and the result array; -/
def lent (d : Dev nD) : sProp 𝕄 := iprop(argPts m d ∗ ∃ f, oLoc d ↦{fullShare} f)
/-- and what it hands back: the arguments as they were, the result array computed. -/
def returned (d : Dev nD) : sProp 𝕄 := iprop(argPts m d ∗ oLoc d ↦{fullShare} outAt m d)

instance lent_storable (d : Dev nD) : BI.Storable (upEmb : UEmb _ 𝕄) (lent m d) := by unfold lent; infer_instance
instance returned_storable (d : Dev nD) : BI.Storable (upEmb : UEmb _ 𝕄) (returned m d) := by unfold returned; infer_instance

/-- The call's payloads. -/
def P : (K (F := F)).Pay (nD := nD) (Val := Elt F) (Name := ℕ) (U := UU) where
  st := fun _ d _ => lent m d
  dn := fun _ d _ => returned m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The sequencer's own buffers and semaphores -/

section Own
variable (d : Dev nD)

/-- The sequencer's five buffers and five semaphores, by number. -/
abbrev sref (k : Fin 5) : Ref sig .scScalar := ⟨.smem, k, rfl⟩
abbrev sbuf (c : Fin τ.nSC) (k : Fin 5) : DevRef τ sig := (Proc.scScalar c).devRef (sref k)
abbrev dcell (c : Fin τ.nSC) (k : Fin 5) : GSem nD τ sig := (S d c, .dma (⟨k.val, k.isLt⟩ : DmaSem sig))

/-- The five buffers, each whole at some contents. -/
abbrev scratch (c : Fin τ.nSC) : sProp 𝕄 :=
  iprop((∃ f, (xS).view.loc (S d c) ↦{fullShare} f) ∗ (∃ f, (eS).view.loc (S d c) ↦{fullShare} f)
    ∗ (∃ f, (wS).view.loc (S d c) ↦{fullShare} f) ∗ (∃ f, (bS).view.loc (S d c) ↦{fullShare} f)
    ∗ (∃ f, (oS).view.loc (S d c) ↦{fullShare} f))

/-- The five semaphores at zero. -/
abbrev cells (c : Fin τ.nSC) : sProp 𝕄 :=
  iprop(semVal (S d c, SemLoc.dma cc0_scratch5.sem) 0 ∗ semVal (S d c, SemLoc.dma cc0_scratch6.sem) 0
    ∗ semVal (S d c, SemLoc.dma cc0_scratch7.sem) 0 ∗ semVal (S d c, SemLoc.dma cc0_scratch8.sem) 0
    ∗ semVal (S d c, SemLoc.dma cc0_scoped0.sem) 0)

omit [FloatOps F] in
/-- The sequencer's own semaphores at zero are the five and the rest. -/
theorem ownSems0_S (c : Fin τ.nSC) :
    (ownSems0 (S d c) : sProp 𝕄)
      = iprop(cells d c ∗ bigSep ((ownCells (S d c)) \ Finset.univ.image (dcell d c)) fun g => semVal g 0) := by
  unfold SparseCore.Cfg.ownSems0
  rw [SparseCore.bigSep_sdiff_split' (t := Finset.univ.image (dcell d c)) (Finset.image_subset_iff.mpr fun k _ =>
      mem_ownCells.mpr ⟨rfl, (show ∀ s : DmaSem sig, (SemLoc.dma s : SemLoc sig).isScoped .scScalar = true by decide) _⟩),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

omit [FloatOps F] in
/-- The sequencer's own buffers, each at some contents, are the five and the rest. -/
theorem ownBufs_S (c : Fin τ.nSC) :
    (ownBufs (S d c) : sProp 𝕄)
      = iprop(scratch d c ∗ bigSep ((ownRefs (τ := τ) (.scScalar c)) \ Finset.univ.image (sbuf c)) fun b => iprop(∃ f, ((d, b) : Loc nD τ sig) ↦{fullShare} f)) := by
  unfold SparseCore.Cfg.ownBufs
  rw [SparseCore.bigSep_sdiff_split' (t := Finset.univ.image (sbuf c)) (Finset.image_subset_iff.mpr fun k _ =>
      (mem_ownRefs (p := Proc.scScalar c) (b := sbuf c k)).mpr rfl),
    SparseCore.bigSep_image_of_injOn (fun a _ b _ h => (by decide +revert : ∀ (c : Fin τ.nSC) (a b : Fin 5), sbuf c a = sbuf c b → a = b) c a b h)]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]

/-! The arrays as the sequencer's memrefs address them are the TensorCore's arrays. -/

section Arrays
omit [FloatOps F]
/-- The word numbers' array is the same array from the sequencer and from the TensorCore; -/
theorem pts_x (c : Fin τ.nSC) (f : Buf (Elt F) (xLoc d)) : ((xW).view.loc (S d c) ↦{fullShare} f : sProp 𝕄) = xLoc d ↦{fullShare} f := by
  simp only [Memref.view_whole, View.set_whole]
/-- so is the table, -/
theorem pts_e (c : Fin τ.nSC) (f : Buf (Elt F) (eLoc d)) : ((eW).view.loc (S d c) ↦{fullShare} f : sProp 𝕄) = eLoc d ↦{fullShare} f := by
  simp only [Memref.view_whole, View.set_whole]
/-- the weights, -/
theorem pts_w (c : Fin τ.nSC) (f : Buf (Elt F) (wLoc d)) : ((wW).view.loc (S d c) ↦{fullShare} f : sProp 𝕄) = wLoc d ↦{fullShare} f := by
  simp only [Memref.view_whole, View.set_whole]
/-- the bias, -/
theorem pts_b (c : Fin τ.nSC) (f : Buf (Elt F) (bLoc d)) : ((bW).view.loc (S d c) ↦{fullShare} f : sProp 𝕄) = bLoc d ↦{fullShare} f := by
  simp only [Memref.view_whole, View.set_whole]
/-- and the result array. -/
theorem pts_o (c : Fin τ.nSC) (f : Buf (Elt F) (oLoc d)) : ((oW).view.loc (S d c) ↦{fullShare} f : sProp 𝕄) = oLoc d ↦{fullShare} f := by
  simp only [Memref.view_whole, View.set_whole]
end Arrays

/-- The kernel on SparseCore 0's sequencer as the launch asks for it: from what the call lends to what it returns, the
    sequencer's buffers and semaphores opened around the body and packed again. -/
theorem body₀ (hm : InRange m) (h : 0 < grid0.bound 0) (O : CellTallies nD τ sig (HIx 1)) (W : Waits sig (HIx 1)) (hO : ∀ g, O g none = 0) :
    iprop(levAts (K (F := F)).L (K (F := F)).lev ∗ emp ∗ lent m d
        ∗ scopedBufs (S0 d h) ∗ scopedSems0 (S0 d h) ∗ owes (S0 d h) O W)
      ⊢ wp frame (wpE (defs₀ (F := F)) 𝒱₀ (S0 d h) none) Set.univ
          (cc0_sc_kernel (coordsS ⟨0, h⟩) xW (Memref.isWhole_whole _) eW (Memref.isWhole_whole _) wW (Memref.isWhole_whole _)
            bW (Memref.isWhole_whole _) oW (Memref.isWhole_whole _) xS (Memref.isWhole_whole _) eS (Memref.isWhole_whole _)
            wS (Memref.isWhole_whole _) bS (Memref.isWhole_whole _) oS (Memref.isWhole_whole _)
            cc0_scratch5 cc0_scratch6 cc0_scratch7 cc0_scratch8 cc0_scoped0)
          fun _ => iprop(returned m d ∗ scopedBufs (S0 d h) ∗ scopedSems0 (S0 d h)
            ∗ ∃ W', ⌜∀ p ∈ W', p ∈ W ∨ p.2 = none ∨ p.2 = some (0 : Fin 1)⌝ ∗ owes (S0 d h) O W') := by
  rw [(K (F := F)).scopedBufs_S facts d _, SparseCore.Cfg.scopedSems0_S (Val := Elt F) d _, ownSems0_S, ownBufs_S]
  unfold lent returned argPts
  iintro ⟨#Hlv, -, ⟨⟨Hx, He, Hw, Hb⟩, %fo, Ho⟩, ⟨⟨⟨⟨%gx, Hxs⟩, ⟨%ge, Hes⟩, ⟨%gw, Hws⟩, ⟨%gb, Hbs⟩, ⟨%go, Hos⟩⟩, Hbufs⟩, Htiles⟩,
    ⟨⟨⟨Hc0, Hc1, Hc2, Hc3, Hc4⟩, Hsems⟩, HtileSems⟩, HO⟩
  ihave Hmw := ((K (F := F)).mayWaits_none (thr := S0 d h) hO) $$ Hlv
  ihave Hx' := (Entails.of_eq (pts_x (F := F) d _ _).symm) $$ Hx
  ihave He' := (Entails.of_eq (pts_e (F := F) d _ _).symm) $$ He
  ihave Hw' := (Entails.of_eq (pts_w (F := F) d _ _).symm) $$ Hw
  ihave Hb' := (Entails.of_eq (pts_b (F := F) d _ _).symm) $$ Hb
  ihave Ho' := (Entails.of_eq (pts_o (F := F) d _ _).symm) $$ Ho
  iapply (wp_wand_r Idealize.ShloMosaic.frame (wpE (defs₀ (F := F)) 𝒱₀ (S0 d h) none) Set.univ)
  isplitl [Hx' He' Hw' Hb' Ho' Hxs Hes Hws Hbs Hos Hc0 Hc1 Hc2 Hc3 Hc4 HO]
  · iapply (seq_run d h O W (m (xLoc d)) (m (eLoc d)) (m (wLoc d)) (m (bLoc d)) (hm d) fo gx ge gw gb go)
    isplitr; · iexact Hmw
    isplitl [Hx']; · iexact Hx'
    isplitl [He']; · iexact He'
    isplitl [Hw']; · iexact Hw'
    isplitl [Hb']; · iexact Hb'
    isplitl [Ho']; · iexact Ho'
    isplitl [Hxs]; · iexact Hxs
    isplitl [Hes]; · iexact Hes
    isplitl [Hws]; · iexact Hws
    isplitl [Hbs]; · iexact Hbs
    isplitl [Hos]; · iexact Hos
    isplitl [Hc0]; · iexact Hc0
    isplitl [Hc1]; · iexact Hc1
    isplitl [Hc2]; · iexact Hc2
    isplitl [Hc3]; · iexact Hc3
    isplitl [Hc4]; · iexact Hc4
    iexact HO
  iintro %_ ⟨Hx', He', Hw', Hb', Ho', Hxs, Hes, Hws, Hbs, Hos, Hc0, Hc1, Hc2, Hc3, Hc4, %W', HO⟩
  isplitl [Hx' He' Hw' Hb' Ho']
  · isplitl [Hx' He' Hw' Hb']
    · isplitl [Hx']; · iapply (Entails.of_eq (pts_x (F := F) d _ _)); iexact Hx'
      isplitl [He']; · iapply (Entails.of_eq (pts_e (F := F) d _ _)); iexact He'
      isplitl [Hw']; · iapply (Entails.of_eq (pts_w (F := F) d _ _)); iexact Hw'
      iapply (Entails.of_eq (pts_b (F := F) d _ _)); iexact Hb'
    iapply (Entails.of_eq (pts_o (F := F) d _ _)); iexact Ho'
  isplitl [Hxs Hes Hws Hbs Hos Hbufs Htiles]
  · isplitl [Hxs Hes Hws Hbs Hos Hbufs]
    · isplitl [Hxs Hes Hws Hbs Hos]
      · isplitl [Hxs]; · iexact Hxs
        isplitl [Hes]; · iexact Hes
        isplitl [Hws]; · iexact Hws
        isplitl [Hbs]; · iexact Hbs
        iexact Hos
      iexact Hbufs
    iexact Htiles
  isplitl [Hc0 Hc1 Hc2 Hc3 Hc4 Hsems HtileSems]
  · isplitl [Hc0 Hc1 Hc2 Hc3 Hc4 Hsems]
    · isplitl [Hc0 Hc1 Hc2 Hc3 Hc4]
      · isplitl [Hc0]; · iexact Hc0
        isplitl [Hc1]; · iexact Hc1
        isplitl [Hc2]; · iexact Hc2
        isplitl [Hc3]; · iexact Hc3
        iexact Hc4
      iexact Hsems
    iexact HtileSems
  iexists W'; isplitr
  · ipureintro; intro p _
    rcases p.2 with _ | q
    · exact .inr (.inl rfl)
    · exact .inr (.inr (congrArg some (Subsingleton.elim q 0)))
  · iexact HO

end Own

/-! ## The launch theorem's obligations -/

/-- The sequencer's body is the kernel at the call's arrays, buffers and semaphores. -/
theorem defs₀_scalar (c : Fin τ.nSC) :
    defs₀ (F := F) (.scScalar c) 0 ()
      = SparseCore.onCore hcore0 (fun c => cc0_sc_kernel (coordsS c) xW (Memref.isWhole_whole _) eW (Memref.isWhole_whole _) wW (Memref.isWhole_whole _)
            bW (Memref.isWhole_whole _) oW (Memref.isWhole_whole _) xS (Memref.isWhole_whole _) eS (Memref.isWhole_whole _)
            wS (Memref.isWhole_whole _) bS (Memref.isWhole_whole _) oS (Memref.isWhole_whole _)
            cc0_scratch5 cc0_scratch6 cc0_scratch7 cc0_scratch8 cc0_scoped0) ⟨⟩ c := rfl

/-- The call's one sequencer meets the launch's obligation. -/
theorem scalarObl (hm : InRange m) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ lent m d ∗ _) ⊢ wp _ _ _ _ (fun _ => iprop(returned m d ∗ _))
  match c with
  | ⟨0, h⟩ => exact body₀ m d hm h O W hO

/-- The launch element: the handshakes' rounds, and nothing of the kernel's own. -/
def u₀ : UU := (initOf (K (F := F)).hsCells (K (F := F)).hsToks, 1)

omit [FloatOps F] in
/-- Nothing, held once for each of any set, is nothing. -/
theorem bigSep_emp' {I : Type} (s : Finset I) : (bigSep s fun _ => iprop(emp)) = (iprop(emp) : sProp 𝕄) := bigSep_emp_const s

/-- The launch element gives the handshakes' rounds, nothing to the devices and nothing to the threads. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore: the call alone -/

/-- The TensorCore's arrays are the four arguments and the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (eLoc d ↦{fullShare} W main_arg1) ∗ (wLoc d ↦{fullShare} W main_arg2)
      ∗ (bLoc d ↦{fullShare} W main_arg3) ∗ oLoc d ↦{fullShare} W main_v0) := by
  unfold unscopedBufs
  rw [show (Finset.univ.filter fun b : Ref sig .tc => ¬ b.isScoped) = {main_arg0, main_arg1, main_arg2, main_arg3, main_v0} by decide,
    SparseCore.bigSep_insert' (by decide), SparseCore.bigSep_insert' (by decide), SparseCore.bigSep_insert' (by decide),
    SparseCore.bigSep_insert' (by decide), bigSep_singleton]

/-- What the call hands its one SparseCore is what it lends; -/
theorem st0_eq (d : Dev nD) : (bigSep Finset.univ fun c : Fin ((K (F := F)).nCore 0) => (P m).st 0 d c) = lent m d := by
  show (bigSep (Finset.univ : Finset (Fin 1)) fun _ => lent m d) = _
  rw [show (Finset.univ : Finset (Fin 1)) = {0} by decide, bigSep_singleton]
/-- what its one SparseCore hands back is what it returns. -/
theorem dn0_eq (d : Dev nD) : (bigSep Finset.univ fun c : Fin ((K (F := F)).nCore 0) => (P m).dn 0 d c) = returned m d := by
  show (bigSep (Finset.univ : Finset (Fin 1)) fun _ => returned m d) = _
  rw [show (Finset.univ : Finset (Fin 1)) = {0} by decide, bigSep_singleton]

/-- @main on device `d`'s TensorCore: the arrays lent to the call and taken back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ returned m d ∗ (K (F := F)).tcEnd d) := by
  unfold SparseCore.Cfg.tcRes SparseCore.Cfg.tcEnd
  rw [unscopedBufs_eq]
  simp only [main, wp_bind, wp_pure]
  iintro ⟨#Hctx, Hst, ⟨Hbd, ⟨Hx, He, Hw, Hb, Ho⟩, Hts, -⟩, -⟩
  iapply ((K (F := F)).wp_run (D (F := F)) 𝒱 (EH := EH) (P := P m) κ d 0) $$ [Hst Hx He Hw Hb Ho Hbd Hts]
  isplitr; · iexact Hctx
  isplitl [Hst]; · iexact Hst
  isplitl [Hx He Hw Hb Ho]
  · rw [st0_eq]; unfold lent argPts
    isplitl [Hx He Hw Hb]
    · isplitl [Hx]; · iexact Hx
      isplitl [He]; · iexact He
      isplitl [Hw]; · iexact Hw
      iexact Hb
    iexists _; iexact Ho
  iintro ⟨Hst, Hdn⟩
  ihave Hdn' := (Entails.of_eq (dn0_eq m d)) $$ Hdn
  imodintro
  isplitl [Hst]; · iexact Hst
  isplitl [Hdn']; · iexact Hdn'
  isplitl [Hbd] <;> iassumption

/-- What a final memory holds on device `d`. -/
def fq (d : Dev nD) (s' : Phys nD τ sig (Elt F)) : Prop :=
  s'.mem.mem (oLoc d) = outAt m d ∧ s'.mem.mem (xLoc d) = m (xLoc d) ∧ s'.mem.mem (eLoc d) = m (eLoc d) ∧ s'.mem.mem (wLoc d) = m (wLoc d)
    ∧ s'.mem.mem (bLoc d) = m (bLoc d)

/-- An array held whole is what the final memory holds. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr
  · ipureintro; exact funext fun i => hx i (Finset.mem_univ i)
  · iexact HSI

/-- What the call returns, read at the end: the final memory holds the result computed and the arguments as they were. -/
theorem hfin (d : Dev nD) (s' : Phys nD τ sig (Elt F)) : iprop(returned m d ∗ SI s') ⊢ (⌜fq m d s'⌝ : sProp 𝕄) := by
  unfold returned argPts fq
  iintro ⟨⟨⟨Hx, He, Hw, Hb⟩, Ho⟩, HSI⟩
  ihave H := (agree s' (oLoc d) _) $$ [Ho HSI]
  · isplitl [Ho] <;> iassumption
  icases H with ⟨%ho, HSI⟩
  ihave H := (agree s' (xLoc d) _) $$ [Hx HSI]
  · isplitl [Hx] <;> iassumption
  icases H with ⟨%hx, HSI⟩
  ihave H := (agree s' (eLoc d) _) $$ [He HSI]
  · isplitl [He] <;> iassumption
  icases H with ⟨%he, HSI⟩
  ihave H := (agree s' (wLoc d) _) $$ [Hw HSI]
  · isplitl [Hw] <;> iassumption
  icases H with ⟨%hw, HSI⟩
  ihave H := (agree s' (bLoc d) _) $$ [Hb HSI]
  · isplitl [Hb] <;> iassumption
  icases H with ⟨%hb, HSI⟩
  ipureintro; exact ⟨ho, hx, he, hw, hb⟩

/-! ## The run -/

/-- What every run ends with: the result computed, the arguments kept, every semaphore at zero. -/
def QC : PUnit × MemSt nD τ sig (Elt F) → Prop := fun r =>
  (∀ d : Dev nD, r.2.mem (oLoc d) = outAt m d ∧ r.2.mem (xLoc d) = m (xLoc d) ∧ r.2.mem (eLoc d) = m (eLoc d) ∧ r.2.mem (wLoc d) = m (wLoc d)
    ∧ r.2.mem (bLoc d) = m (bLoc d)) ∧ r.2.sem = fun _ => 0

/-- Every run of the program from word numbers below 8 ends, and with that. -/
theorem run_main [∀ e, Nonempty (Elt F e)] (hm : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m hm)
    (fun q hq => match q with | 0 => nomatch hq)
    (fun q hq => match q with | 0 => nomatch hq)
    m ρ main (fun _ => iprop(emp)) (returned m) (u₀ (F := F)) (sep_elim_left.trans (hu₀ m)) (hmain m ρ) (fq m) (hfin m) (QC m) (fun _ h hz => ⟨h, hz⟩)

end Cert.Proof.Embed

end
-- ==== Proof.Pre.lean ====
/-
  What the precondition says: `jnp.all((x >= 0) & (x < 8))` came out true, so each of the two word numbers, read as
  an unsigned number, is below 8.
-/
module

public import proofs.«01_k».proof.Proof.Run
public import proofs.«01_k».proof.Proof.Gen.Pre_in_range
public import Idealize.ShloMosaic.Lib.ReduceAll

@[expose] public section

noncomputable section

namespace Cert.Proof.Embed

open Cert.KernelIdeal Cert.KernelIdeal.Gen
open Idealize.ShloMosaic
open Idealize.ShloMosaic.ValueIdx (ix1 ix2)

variable {F : FTy → Type} [FloatOps F]

/-- A word at least 0 and below 8 as a signed number is below 8 as an unsigned one. -/
theorem word_below (v : BitVec 32) (h : IntOp.andi (IntOp.cmpi .sge v 0#32) (IntOp.cmpi .slt v 8#32) = 1#1) : v.toNat < 8 := by
  have both : ∀ p q : Bool, IntOp.andi (BitVec.ofBool p) (BitVec.ofBool q) = 1#1 → p = true ∧ q = true := by decide
  obtain ⟨h0, h8⟩ : (0#32).sle v = true ∧ v.slt 8#32 = true := both _ _ h
  rw [BitVec.sle_eq_decide, decide_eq_true_eq, BitVec.toInt_eq_toNat_cond, BitVec.toInt_eq_toNat_cond] at h0
  rw [BitVec.slt_eq_decide, decide_eq_true_eq, BitVec.toInt_eq_toNat_cond, BitVec.toInt_eq_toNat_cond] at h8
  simp only [BitVec.toNat_ofNat, Nat.reducePow, Nat.reduceMod] at h0 h8
  omega

/-- Where the precondition's function is true, both word numbers are below 8. -/
theorem words_below (x : S2.Idx → BitVec 32) (e : S8x30.Idx → F .f32) (w : S8x60.Idx → F .f32) (b : S8.Idx → F .f32)
    (h : Cert.Pre_in_range.fn (F := F) x e w b = fun _ => 1#1) (c : Fin 2) : (x (ix1 c)).toNat < 8 := by
  have : Subsingleton Cert.Pre_in_range.S_.Idx := ⟨fun a b => funext fun k => k.elim0⟩
  exact word_below _ (Host.reduce_andi_all _ _ _ _ (fun k => k.elim0) (congrFun h _) (ix1 c))

/-- The precondition on a launch memory, at any float values. -/
abbrev PreAt (m : (ℓ : Loc nD τ sig) → Buf (Elt F) ℓ) : Prop :=
  ∀ c : Dev nD, Cert.Pre_in_range.fn (F := F) (m ((c.tc : Thread nD τ).loc main_arg0)) (m ((c.tc : Thread nD τ).loc main_arg1))
    (m ((c.tc : Thread nD τ).loc main_arg2)) (m ((c.tc : Thread nD τ).loc main_arg3)) = fun _ => 1#1

/-- A launch memory of which the precondition holds has every word number below 8. -/
theorem inRange_of_pre (m : (ℓ : Loc nD τ sig) → Buf (Elt F) ℓ) (h : PreAt m) : InRange m :=
  fun d c => words_below _ _ _ _ (h d) c

end Cert.Proof.Embed

end
-- ==== Proof.Value.lean ====
/-
  The reference's result at the ideal values. Its operations composed, read at a neuron, are the sum of the sixty
  products of the two selected rows with the neuron's weights, plus the bias; the kernel adds the same products to the
  bias one at a time. Addition of ideal values is commutative and associative, so the two agree.
-/
module

public import proofs.«01_k».proof.Proof.Setup
public import proofs.«01_k».proof.Proof.Gen.ReferenceIdeal.Run
public import Idealize.ShloMosaic.Lib.ReduceAll
public import Idealize.ShloMosaic.Lib.StackMember
public import Idealize.ShloMosaic.Lib.Routing.Ops
public import Idealize.ShloMosaic.Lib.Pipeline.Value

@[expose] public section

noncomputable section

namespace Cert.Proof.Embed.Reference

open Cert.ReferenceIdeal Cert.ReferenceIdeal.Gen
open Idealize.ShloMosaic
open Idealize.ShloMosaic.ValueIdx (ix1 ix2 eq_ix1 eq_ix2)

section Lookup
variable {F : FTy → Type} [FloatOps F]
variable (x : S2.Idx → BitVec 32) (e : S8x30.Idx → F .f32)

/-- The row numbers as the reference's lookup uses them, a negative one counted from the end, as a column. -/
abbrev rows : IVec S2x1 32 :=
  broadcastInDim S2x1 ![0] bcast_S2_S2x1_0
    (select (cmpi .slt x (broadcastInDim S2 ![] bcast_S_S2 (constantI S_ 32 0#32)))
      (addi x (broadcastInDim S2 ![] bcast_S_S2 (constantI S_ 32 8#32))) x)

/-- Which of the two row numbers lie in the table. -/
abbrev inside : IVec S2 1 :=
  Host.reduce IntOp.andi
    (andi (cmpi .sge (rows x) (broadcastInDim S2x1 ![] bcast_S_S2x1 (constantI S_ 32 0#32)))
      (cmpi .sle (rows x) (broadcastInDim S2x1 ![0, 1] bcast_S1x1_S2x1_0_1 (broadcastInDim S1x1 ![1] bcast_S1_S1x1_1 (constantI S1 32 7#32)))))
    (constantI S_ 1 1#1) reducesTo_S2x1_S2_d1 h_S_

/-- The reference's lookup of the two rows: the gathered rows, a row outside the table replaced by a fill value. -/
abbrev lookup : FVec F S2x30 .f32 :=
  select (broadcastInDim S2x30 ![0] bcast_S2_S2x30_0 (inside x))
    (Host.gather gather_S8x30_S2x1_S2x30_1_0_n_n_0_1_130 e (rows x))
    (broadcastInDim S2x30 ![] bcast_S_S2x30 (constant S_ .f32 0x7FC00000#32))

variable (hx : ∀ c : Fin 2, (x (ix1 c)).toNat < 8)
include hx

/-- A row number below 8 is not negative, so it is used as it stands. -/
theorem rows_eq (c : Fin 2) (z : Fin 1) : rows x (ix2 c z) = x (ix1 c) := by
  have small : ∀ v : BitVec 32, v.toNat < 8 → Scalar.select (IntOp.cmpi .slt v 0#32) (IntOp.addi v 8#32) v = v := by
    intro v hv
    have h0 : IntOp.cmpi .slt v 0#32 = 0#1 := by
      show BitVec.ofBool (v.slt 0#32) = 0#1
      have : v.slt 0#32 = false := by
        rw [BitVec.slt_eq_decide, decide_eq_false_iff_not, BitVec.toInt_eq_toNat_cond, BitVec.toInt_eq_toNat_cond]
        simp only [BitVec.toNat_ofNat, Nat.reducePow, Nat.reduceMod]
        omega
      rw [this]; rfl
    rw [h0]; rfl
  have column : ∀ y : S2.Idx → BitVec 32, broadcastInDim S2x1 ![0] bcast_S2_S2x1_0 y (ix2 c z) = y (ix1 c) :=
    fun y => congrArg y (funext fun a => by match a with | ⟨0, _⟩ => rfl)
  exact (column _).trans (small (x (ix1 c)) (hx c))

/-- Row numbers below 8 all lie in the table. -/
theorem inside_eq (j : S2.Idx) : inside x j = 1#1 := by
  refine Host.reduce_andi_one _ _ _ _ _ rfl fun i => ?_
  obtain ⟨c, z, rfl⟩ : ∃ (c : Fin 2) (z : Fin 1), i = ix2 c z := ⟨_, _, eq_ix2 i⟩
  show IntOp.andi (IntOp.cmpi .sge (rows x (ix2 c z)) 0#32) (IntOp.cmpi .sle (rows x (ix2 c z)) 7#32) = 1#1
  rw [rows_eq x hx c z]
  have h := hx c
  generalize x (ix1 c) = v at h
  have h0 : (0#32).sle v = true := by
    rw [BitVec.sle_eq_decide, decide_eq_true_eq, BitVec.toInt_eq_toNat_cond, BitVec.toInt_eq_toNat_cond]
    simp only [BitVec.toNat_ofNat, Nat.reducePow, Nat.reduceMod]
    omega
  have h7 : v.sle 7#32 = true := by
    rw [BitVec.sle_eq_decide, decide_eq_true_eq, BitVec.toInt_eq_toNat_cond, BitVec.toInt_eq_toNat_cond]
    simp only [BitVec.toNat_ofNat, Nat.reducePow, Nat.reduceMod]
    omega
  show IntOp.andi (BitVec.ofBool ((0#32).sle v)) (BitVec.ofBool (v.sle 7#32)) = 1#1
  rw [h0, h7]; rfl

/-- The lookup at word `c`, entry `k`: the table's row `x[c]`, entry `k`. -/
theorem lookup_eq (c : Fin 2) (k : Fin 30) : lookup x e (ix2 c k) = e (ix2 ⟨rowOf x c, Nat.mod_lt _ (by decide)⟩ k) := by
  show Scalar.select (inside x _) (Host.gather gather_S8x30_S2x1_S2x30_1_0_n_n_0_1_130 e (rows x) (ix2 c k)) _ = _
  rw [inside_eq x hx]
  show Host.gather gather_S8x30_S2x1_S2x30_1_0_n_n_0_1_130 e (rows x) (ix2 c k) = _
  refine Routing.gather_row _ rfl rfl rfl rfl rfl e (rows x) c k ⟨rowOf x c, Nat.mod_lt _ (by decide)⟩ ?_ (by decide)
  rw [rows_eq x hx]
  refine BitVec.eq_of_toNat_eq ?_
  have h := hx c
  simp only [rowOf, BitVec.toNat_ofNat]
  omega

end Lookup

section Sum
variable (x : S2.Idx → BitVec 32) (e : S8x30.Idx → Ideal .f32) (w : S8x60.Idx → Ideal .f32) (b : S8.Idx → Ideal .f32)

/-- The reference's result as one term of its arguments. -/
abbrev result : FVec Ideal S1x8 .f32 :=
  addf (Host.dotGeneral dot_S1x60_S60x8_S1x8_1_0_0_1_n_n none (shapeCast S1x60 (lookup x e) shapeCasts_S2x30_S1x60)
      (transpose S60x8 [1, 0] w transposes_S8x60_S60x8_1_0))
    (broadcastInDim S1x8 ![1] bcast_S8_S1x8_1 b)

/-- Product number `k` of neuron `j`: entry `k % 30` of the row that word `k / 30` names, times the neuron's weight `k`. -/
def product (j : Fin 8) (k : ℕ) : Ideal .f32 :=
  e (ix2 ⟨rowOf x ⟨k / 30 % 2, Nat.mod_lt _ (by decide)⟩, Nat.mod_lt _ (by decide)⟩ ⟨k % 30, Nat.mod_lt _ (by decide)⟩)
    * w (ix2 j ⟨k % 60, Nat.mod_lt _ (by decide)⟩)

/-- Adding a word's first `n` products one at a time to `a` gives `a` plus their sum. -/
theorem partialDot_eq (c : Fin 2) (j : Fin 8) (a : Ideal .f32) :
    ∀ n ≤ 30, partialDot x e w c j a n = a + ∑ k ∈ Finset.range n, product x e w j (30 * c.val + k)
  | 0, _ => (add_zero a).symm
  | n + 1, hn => by
    have hc : (⟨(30 * c.val + n) / 30 % 2, Nat.mod_lt _ (by decide)⟩ : Fin 2) = c := Fin.ext (by
      have := c.isLt; show (30 * c.val + n) / 30 % 2 = c.val; omega)
    have hn' : (⟨(30 * c.val + n) % 30, Nat.mod_lt _ (by decide)⟩ : Fin 30) = ⟨n % 30, Nat.mod_lt _ (by decide)⟩ := Fin.ext (by
      show (30 * c.val + n) % 30 = n % 30; omega)
    have entry : ∀ (c' : Fin 2) (k' : Fin 30), c' = c → k' = ⟨n % 30, Nat.mod_lt _ (by decide)⟩ →
        e (ix2 ⟨rowOf x c', Nat.mod_lt _ (by decide)⟩ k')
          = e (ix2 ⟨rowOf x c, Nat.mod_lt _ (by decide)⟩ ⟨n % 30, Nat.mod_lt _ (by decide)⟩) := by
      rintro _ _ rfl rfl; rfl
    rw [Finset.sum_range_succ, ← add_assoc, ← partialDot_eq c j a n (by omega)]
    exact congrArg (fun z => partialDot x e w c j a n + z * w (ix2 j ⟨(30 * c.val + n) % 60, Nat.mod_lt _ (by decide)⟩))
      (entry _ _ hc hn').symm

/-- A neuron of the kernel is the bias plus the sum of its sixty products. -/
theorem neuron_eq (j : Fin 8) : neuron x e w b j = b (ix1 j) + ∑ k ∈ Finset.range 60, product x e w j k := by
  unfold neuron
  rw [partialDot_eq x e w 1 j _ 30 le_rfl, partialDot_eq x e w 0 j _ 30 le_rfl, add_assoc,
    show (60 : ℕ) = 30 + 30 from rfl, Finset.sum_range_add]
  simp

variable (hx : ∀ c : Fin 2, (x (ix1 c)).toNat < 8)
include hx

/-- Entry `k` of the two selected rows laid side by side. -/
theorem flat_eq (k : Fin 60) : shapeCast S1x60 (lookup x e) shapeCasts_S2x30_S1x60 (ix2 (0 : Fin 1) k)
    = e (ix2 ⟨rowOf x ⟨k.val / 30 % 2, Nat.mod_lt _ (by decide)⟩, Nat.mod_lt _ (by decide)⟩ ⟨k.val % 30, Nat.mod_lt _ (by decide)⟩) := by
  rw [shapeCast_apply (lookup x e) shapeCasts_S2x30_S1x60 _
    (ix2 (⟨k.val / 30 % 2, Nat.mod_lt _ (by decide)⟩ : Fin 2) (⟨k.val % 30, Nat.mod_lt _ (by decide)⟩ : Fin 30)) ?_]
  · exact lookup_eq x e hx _ _
  · rw [Shape.rowMajor_val_two, Shape.rowMajor_val_two]
    have := k.isLt
    show k.val / 30 % 2 * 30 + k.val % 30 = 0 * 60 + k.val
    omega

/-- The reference's result is the kernel's. -/
theorem result_eq : result x e w b = outOf x e w b := by
  funext i
  obtain ⟨z, j, rfl⟩ : ∃ (z : Fin 1) (j : Fin 8), i = ix2 z j := ⟨_, _, eq_ix2 i⟩
  obtain rfl : z = 0 := Subsingleton.elim _ _
  show Host.dotGeneral (DotDims.plain 1 60 8) none (shapeCast S1x60 (lookup x e) shapeCasts_S2x30_S1x60)
      (transpose S60x8 [1, 0] w transposes_S8x60_S60x8_1_0) (ix2 0 j)
    + broadcastInDim S1x8 ![1] bcast_S8_S1x8_1 b (ix2 0 j) = neuron x e w b j
  rw [StackMember.dotGeneral_plain_apply, neuron_eq, add_comm, Finset.sum_range]
  have bias : broadcastInDim S1x8 ![1] bcast_S8_S1x8_1 b (ix2 (0 : Fin 1) j) = b (ix1 j) :=
    congrArg b (funext fun a => by match a with | ⟨0, _⟩ => rfl)
  have weight : ∀ k : Fin 60, transpose S60x8 [1, 0] w transposes_S8x60_S60x8_1_0 (ix2 k j)
      = w (ix2 j ⟨k.val % 60, Nat.mod_lt _ (by decide)⟩) := fun k =>
    congrArg w (funext fun a => Fin.ext (by
      match a with
      | ⟨0, _⟩ => rfl
      | ⟨1, _⟩ => exact (Nat.mod_eq_of_lt k.isLt).symm))
  rw [bias]
  refine congrArg (b (ix1 j) + ·) (Finset.sum_congr rfl fun k _ => ?_)
  rw [flat_eq x e hx, weight]
  rfl

end Sum

end Cert.Proof.Embed.Reference

end
-- ==== Proof.lean ====
/-
  The claims about the embedding-and-linear kernel: it runs, keeps its arguments and leaves every semaphore at zero,
  at the machine's floats and at ideal values; so does the reference; its idealization is its own text; and at ideal
  values it computes the reference's result. The two frames of the kernel and its value all come of one run
  (Proof/Run.lean), at any float values.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Pre
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem
open Cert.Proof.Embed

/-- From word numbers in range the kernel runs at the machine's floats, keeps its arguments and leaves every semaphore at
    zero. -/
theorem frame_kernel : Cert.quiescent_Kernel (hKernel := Cert.Kernel.Gen.facts) (hPre_in_range := Cert.Pre_in_range.Gen.facts) :=
  fun m g hp => (θ_run (Cert.KernelIdeal.defs (F := Bits)) _ _).mono (fun _ h => ⟨fun c => (h.1 c).2, h.2⟩)
    (run_main (F := Bits) m g (inRange_of_pre (F := Bits) m hp))

/-- The same at ideal values. -/
theorem frame_kernelIdeal :
    Cert.quiescent_KernelIdeal (hKernelIdeal := Cert.KernelIdeal.Gen.facts) (hPre_in_range := Cert.Pre_in_range.Gen.facts) :=
  fun m g hp => (θ_run (Cert.KernelIdeal.defs (F := Ideal)) _ _).mono (fun _ h => ⟨fun c => (h.1 c).2, h.2⟩)
    (run_main (F := Ideal) m g (inRange_of_pre (F := Ideal) m hp))

/-- The reference runs from any arguments, keeps them and leaves every semaphore at zero. -/
theorem frame_referenceIdeal : Cert.quiescent_ReferenceIdeal (hReferenceIdeal := Cert.ReferenceIdeal.Gen.facts) :=
  fun m g _ => (θ_run (Cert.ReferenceIdeal.defs (F := Ideal)) _ _).mono
    (fun r h => ⟨fun c => (h c).2, sem_eq_zero_of_no_sems (by decide) r.2⟩) (Cert.ReferenceIdeal.Value.run (F := Ideal) m g)

/-- In particular from word numbers in range. -/
theorem frame_referenceIdeal_in_range :
    Cert.quiescent_ReferenceIdeal_pre_in_range (hReferenceIdeal := Cert.ReferenceIdeal.Gen.facts) (hPre_in_range := Cert.Pre_in_range.Gen.facts) :=
  fun m g _ => frame_referenceIdeal m g trivial

/-- From the same arguments, the word numbers in range, the kernel and the reference end with equal results at ideal
    values. -/
theorem same_result :
    Cert.algebraic_KernelIdeal_ReferenceIdeal (hKernelIdeal := Cert.KernelIdeal.Gen.facts)
      (hReferenceIdeal := Cert.ReferenceIdeal.Gen.facts) (hPre_in_range := Cert.Pre_in_range.Gen.facts) := by
  intro m g m' g' hp hargs
  have hm : InRange m := inRange_of_pre (F := Ideal) m hp
  refine ⟨fun c => outAt m c, ?_, ?_⟩
  · exact (θ_run (Cert.KernelIdeal.defs (F := Ideal)) _ _).mono (fun _ h c => h.1 c) (run_main (F := Ideal) m g hm)
  · refine (θ_run (Cert.ReferenceIdeal.defs (F := Ideal)) _ _).mono (fun r h c => ⟨(h c).1.trans ?_, (h c).2⟩)
      (Cert.ReferenceIdeal.Value.run (F := Ideal) m' g')
    obtain ⟨h0, h1, h2, h3⟩ := hargs c
    rw [h0, h1, h2, h3]
    exact Reference.result_eq _ _ _ _ (hm c)

/-- Every claim of the certificate. -/
theorem claim : Cert.Claim := ⟨Cert.Kernel.Gen.facts, Cert.KernelIdeal.Gen.facts, Cert.ReferenceIdeal.Gen.facts, Cert.Pre_in_range.Gen.facts,
  frame_kernel, frame_kernelIdeal, frame_referenceIdeal, frame_referenceIdeal_in_range, trivial, same_result⟩

end Cert.Proof

end
